-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_proper_boxes [hPre_proper_boxes : Cert.Pre_proper_boxes.Facts] (m : (ℓ : Loc Cert.KernelIdeal.nD Cert.KernelIdeal.τ Cert.KernelIdeal.sig) → Buf (Elt Ideal) ℓ) : Prop :=
  ∀ c : Dev Cert.KernelIdeal.nD,
    (Cert.Pre_proper_boxes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_proper_boxes [hPre_proper_boxes : Cert.Pre_proper_boxes.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_proper_boxes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_proper_boxes [hKernelIdeal : Cert.KernelIdeal.Facts] [hPre_proper_boxes : Cert.Pre_proper_boxes.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_proper_boxes m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_proper_boxes [hReferenceIdeal : Cert.ReferenceIdeal.Facts] [hPre_proper_boxes : Cert.Pre_proper_boxes.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_proper_boxes m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_proper_boxes [hKernelIdeal : Cert.KernelIdeal.Facts] [hReferenceIdeal : Cert.ReferenceIdeal.Facts] [hPre_proper_boxes : Cert.Pre_proper_boxes.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_proper_boxes m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_proper_boxes : Cert.Pre_proper_boxes.Facts),
    quiescent_Kernel (hKernel := hKernel)
    ∧ quiescent_KernelIdeal (hKernelIdeal := hKernelIdeal)
    ∧ quiescent_KernelIdeal_pre_proper_boxes (hKernelIdeal := hKernelIdeal) (hPre_proper_boxes := hPre_proper_boxes)
    ∧ quiescent_ReferenceIdeal (hReferenceIdeal := hReferenceIdeal)
    ∧ quiescent_ReferenceIdeal_pre_proper_boxes (hReferenceIdeal := hReferenceIdeal) (hPre_proper_boxes := hPre_proper_boxes)
    ∧ preserves_Kernel_KernelIdeal
    ∧ algebraic_KernelIdeal_ReferenceIdeal_pre_proper_boxes (hKernelIdeal := hKernelIdeal) (hReferenceIdeal := hReferenceIdeal) (hPre_proper_boxes := hPre_proper_boxes)
-- ==== Pre_proper_boxes.lean ====
abbrev S5000x4 : Shape := ⟨2, ![5000, 4]⟩
abbrev S5000 : Shape := ⟨1, ![5000]⟩
abbrev S5000x1 : Shape := ⟨2, ![5000, 1]⟩
abbrev S_ : Shape := ⟨0, ![]⟩

class Facts : Prop where
  slices_S5000x4_S5000x1_0_0 : S5000x4.Slices ![0, 0] S5000x1
  shapeCasts_S5000x1_S5000 : S5000x1.ShapeCasts S5000
  slices_S5000x4_S5000x1_0_1 : S5000x4.Slices ![0, 1] S5000x1
  slices_S5000x4_S5000x1_0_2 : S5000x4.Slices ![0, 2] S5000x1
  slices_S5000x4_S5000x1_0_3 : S5000x4.Slices ![0, 3] S5000x1
  bcast_S_S5000 : S_.BroadcastsInDim S5000 (![] : Fin 0 → Fin S5000.rank)

variable [Facts]

def fn_part1 {F : FTy → Type} [FloatOps F] (main_v1 : FVec F S5000 .f32) (main_v3 : FVec F S5000 .f32) (main_v5 : FVec F S5000 .f32) (main_v7 : FVec F S5000 .f32) (main_v18 : IVec S5000 1) (main_v19 : FVec F S5000 .f32) (main_cst_2 : FVec F S_ .f32) : IVec S5000 1 :=
  let main_v20 : FVec F S5000 .f32 := broadcastInDim S5000 ![] bcast_S_S5000 main_cst_2
  let main_v21 : IVec S5000 1 := cmpf .olt main_v19 main_v20
  let main_v22 : IVec S5000 1 := andi main_v18 main_v21
  let main_cst_3 : FVec F S_ .f32 := constant S_ .f32 0x46EA6000#32
  let main_v23 : FVec F S5000 .f32 := broadcastInDim S5000 ![] bcast_S_S5000 main_cst_3
  let main_v24 : IVec S5000 1 := cmpf .ole main_v5 main_v23
  let main_v25 : IVec S5000 1 := andi main_v22 main_v24
  let main_v26 : FVec F S5000 .f32 := subf main_v5 main_v1
  let main_v27 : FVec F S5000 .f32 := subf main_v7 main_v3
  let main_v28 : FVec F S5000 .f32 := mulf main_v26 main_v27
  let main_cst_4 : FVec F S_ .f32 := constant S_ .f32 0x3089705F#32
  let main_v29 : FVec F S5000 .f32 := broadcastInDim S5000 ![] bcast_S_S5000 main_cst_4
  let main_v30 : IVec S5000 1 := cmpf .oge main_v28 main_v29
  let main_v31 : IVec S5000 1 := andi main_v25 main_v30
  main_v31

def fn {F : FTy → Type} [FloatOps F] (main_arg0 : FVec F S5000x4 .f32) (main_arg1 : FVec F S5000 .f32) : IVec S5000 1 :=
  let main_v0 : FVec F S5000x1 .f32 := (extractStridedSlice S5000x1 ![0, 0] · slices_S5000x4_S5000x1_0_0) main_arg0
  let main_v1 : FVec F S5000 .f32 := shapeCast S5000 main_v0 shapeCasts_S5000x1_S5000
  let main_v2 : FVec F S5000x1 .f32 := (extractStridedSlice S5000x1 ![0, 1] · slices_S5000x4_S5000x1_0_1) main_arg0
  let main_v3 : FVec F S5000 .f32 := shapeCast S5000 main_v2 shapeCasts_S5000x1_S5000
  let main_v4 : FVec F S5000x1 .f32 := (extractStridedSlice S5000x1 ![0, 2] · slices_S5000x4_S5000x1_0_2) main_arg0
  let main_v5 : FVec F S5000 .f32 := shapeCast S5000 main_v4 shapeCasts_S5000x1_S5000
  let main_v6 : FVec F S5000x1 .f32 := (extractStridedSlice S5000x1 ![0, 3] · slices_S5000x4_S5000x1_0_3) main_arg0
  let main_v7 : FVec F S5000 .f32 := shapeCast S5000 main_v6 shapeCasts_S5000x1_S5000
  let main_v8 : FVec F S5000 .f32 := Host.absf main_v1
  let main_cst : FVec F S_ .f32 := constant S_ .f32 0x7F800000#32
  let main_v9 : FVec F S5000 .f32 := broadcastInDim S5000 ![] bcast_S_S5000 main_cst
  let main_v10 : IVec S5000 1 := cmpf .olt main_v8 main_v9
  let main_v11 : FVec F S5000 .f32 := Host.absf main_v3
  let main_cst_0 : FVec F S_ .f32 := constant S_ .f32 0x7F800000#32
  let main_v12 : FVec F S5000 .f32 := broadcastInDim S5000 ![] bcast_S_S5000 main_cst_0
  let main_v13 : IVec S5000 1 := cmpf .olt main_v11 main_v12
  let main_v14 : IVec S5000 1 := andi main_v10 main_v13
  let main_v15 : FVec F S5000 .f32 := Host.absf main_v5
  let main_cst_1 : FVec F S_ .f32 := constant S_ .f32 0x7F800000#32
  let main_v16 : FVec F S5000 .f32 := broadcastInDim S5000 ![] bcast_S_S5000 main_cst_1
  let main_v17 : IVec S5000 1 := cmpf .olt main_v15 main_v16
  let main_v18 : IVec S5000 1 := andi main_v14 main_v17
  let main_v19 : FVec F S5000 .f32 := Host.absf main_v7
  let main_cst_2 : FVec F S_ .f32 := constant S_ .f32 0x7F800000#32
  fn_part1 (F := F) main_v1 main_v3 main_v5 main_v7 main_v18 main_v19 main_cst_2
-- ==== Kernel.lean ====
abbrev S5000x4 : Shape := ⟨2, ![5000, 4]⟩
abbrev S5000 : Shape := ⟨1, ![5000]⟩
abbrev S5000x1 : Shape := ⟨2, ![5000, 1]⟩
abbrev S_ : Shape := ⟨0, ![]⟩
abbrev S120 : Shape := ⟨1, ![120]⟩
abbrev S5120 : Shape := ⟨1, ![5120]⟩
abbrev S1x5120 : Shape := ⟨2, ![1, 5120]⟩
abbrev S5x5120 : Shape := ⟨2, ![5, 5120]⟩
abbrev S5120x1 : Shape := ⟨2, ![5120, 1]⟩
abbrev S5120x6 : Shape := ⟨2, ![5120, 6]⟩
abbrev S5120x5 : Shape := ⟨2, ![5120, 5]⟩
abbrev S1024x6 : Shape := ⟨2, ![1024, 6]⟩
abbrev S1024x5 : Shape := ⟨2, ![1024, 5]⟩
abbrev S1024x1024 : Shape := ⟨2, ![1024, 1024]⟩
abbrev S1024x1 : Shape := ⟨2, ![1024, 1]⟩
abbrev S1x1024 : Shape := ⟨2, ![1, 1024]⟩
abbrev S1x1x1024 : Shape := ⟨3, ![1, 1, 1024]⟩
abbrev S1 : Shape := ⟨1, ![1]⟩
abbrev S1x1x1 : Shape := ⟨3, ![1, 1, 1]⟩
abbrev S1024 : Shape := ⟨1, ![1024]⟩
abbrev S5000x5 : Shape := ⟨2, ![5000, 5]⟩

abbrev nBuf : Space → Nat
  | .hbm => 43
  | .vmem => 8
  | .smem => 0
  | _ => 0

abbrev bufTy : (tb : Table) → Fin (tcTables nBuf tb) → BufTy
  | .hbm, ⟨0, _⟩ => ⟨S5000x4, .f32⟩
  | .hbm, ⟨1, _⟩ => ⟨S5000, .f32⟩
  | .hbm, ⟨2, _⟩ => ⟨S5000, .f32⟩
  | .hbm, ⟨3, _⟩ => ⟨S5000x1, .f32⟩
  | .hbm, ⟨4, _⟩ => ⟨S5000, .f32⟩
  | .hbm, ⟨5, _⟩ => ⟨S5000x1, .f32⟩
  | .hbm, ⟨6, _⟩ => ⟨S5000, .f32⟩
  | .hbm, ⟨7, _⟩ => ⟨S5000x1, .f32⟩
  | .hbm, ⟨8, _⟩ => ⟨S5000, .f32⟩
  | .hbm, ⟨9, _⟩ => ⟨S5000x1, .f32⟩
  | .hbm, ⟨10, _⟩ => ⟨S5000, .f32⟩
  | .hbm, ⟨11, _⟩ => ⟨S5000, .f32⟩
  | .hbm, ⟨12, _⟩ => ⟨S5000, .f32⟩
  | .hbm, ⟨13, _⟩ => ⟨S5000, .f32⟩
  | .hbm, ⟨14, _⟩ => ⟨S5000, .f32⟩
  | .hbm, ⟨15, _⟩ => ⟨S5000, .f32⟩
  | .hbm, ⟨16, _⟩ => ⟨S5000, .f32⟩
  | .hbm, ⟨17, _⟩ => ⟨S5000, .f32⟩
  | .hbm, ⟨18, _⟩ => ⟨S5000, .f32⟩
  | .hbm, ⟨19, _⟩ => ⟨S5000, .f32⟩
  | .hbm, ⟨20, _⟩ => ⟨S_, .f32⟩
  | .hbm, ⟨21, _⟩ => ⟨S120, .f32⟩
  | .hbm, ⟨22, _⟩ => ⟨S5120, .f32⟩
  | .hbm, ⟨23, _⟩ => ⟨S5120, .f32⟩
  | .hbm, ⟨24, _⟩ => ⟨S5120, .f32⟩
  | .hbm, ⟨25, _⟩ => ⟨S5120, .f32⟩
  | .hbm, ⟨26, _⟩ => ⟨S5120, .f32⟩
  | .hbm, ⟨27, _⟩ => ⟨S5120, .f32⟩
  | .hbm, ⟨28, _⟩ => ⟨S1x5120, .f32⟩
  | .hbm, ⟨29, _⟩ => ⟨S1x5120, .f32⟩
  | .hbm, ⟨30, _⟩ => ⟨S1x5120, .f32⟩
  | .hbm, ⟨31, _⟩ => ⟨S1x5120, .f32⟩
  | .hbm, ⟨32, _⟩ => ⟨S1x5120, .f32⟩
  | .hbm, ⟨33, _⟩ => ⟨S5x5120, .f32⟩
  | .hbm, ⟨34, _⟩ => ⟨S5120x1, .f32⟩
  | .hbm, ⟨35, _⟩ => ⟨S5120x1, .f32⟩
  | .hbm, ⟨36, _⟩ => ⟨S5120x1, .f32⟩
  | .hbm, ⟨37, _⟩ => ⟨S5120x1, .f32⟩
  | .hbm, ⟨38, _⟩ => ⟨S5120x1, .f32⟩
  | .hbm, ⟨39, _⟩ => ⟨S5120x1, .f32⟩
  | .hbm, ⟨40, _⟩ => ⟨S5120x6, .f32⟩
  | .hbm, ⟨41, _⟩ => ⟨S5120x5, .f32⟩
  | .hbm, ⟨42, _⟩ => ⟨S5000x5, .f32⟩
  | .local _ .vmem, ⟨0, _⟩ => ⟨S5x5120, .f32⟩
  | .local _ .vmem, ⟨1, _⟩ => ⟨S1024x6, .f32⟩
  | .local _ .vmem, ⟨2, _⟩ => ⟨S1024x6, .f32⟩
  | .local _ .vmem, ⟨3, _⟩ => ⟨S1024x5, .f32⟩
  | .local _ .vmem, ⟨4, _⟩ => ⟨S1024x5, .f32⟩
  | .local _ .vmem, ⟨5, _⟩ => ⟨S1024x1024, .f32⟩
  | .local _ .vmem, ⟨6, _⟩ => ⟨S1x5120, .f32⟩
  | .local _ .vmem, ⟨7, _⟩ => ⟨S1024x1, .f32⟩
  | _, _ => ⟨S5000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9_0 : Ref sig .tc := ⟨.hbm, 11, rfl⟩
abbrev main_v9_1 : Ref sig .tc := ⟨.hbm, 12, rfl⟩
abbrev main_v9_2 : Ref sig .tc := ⟨.hbm, 13, rfl⟩
abbrev main_v9_3 : Ref sig .tc := ⟨.hbm, 14, rfl⟩
abbrev main_v9_4 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![5, 5], ![false, false]⟩

def k0_mult1 (i : grid0.Coords) : BitVec 32 :=
  let arg0 : BitVec 32 := BitVec.ofNat 32 (i 0).val
  let c1024_i32 : BitVec 32 := 1024#32
  let v0 : BitVec 32 := Scalar.muli arg0 c1024_i32
  v0
def k0_mult2 (i : grid0.Coords) : BitVec 32 :=
  let arg1 : BitVec 32 := BitVec.ofNat 32 (i 1).val
  let c1024_i32_0 : BitVec 32 := 1024#32
  let v2 : BitVec 32 := Scalar.muli arg1 c1024_i32_0
  v2
def k0_cond2 (i : grid0.Coords) : BitVec 1 :=
  let arg1 : BitVec 32 := BitVec.ofNat 32 (i 1).val
  let arg0 : BitVec 32 := BitVec.ofNat 32 (i 0).val
  let v9 : BitVec 1 := Scalar.cmpi .eq arg1 arg0
  let v10 : BitVec 32 := Scalar.extui v9
  let c0_i32_3 : BitVec 32 := 0#32
  let v11 : BitVec 1 := Scalar.cmpi .ne v10 c0_i32_3
  v11

def k0_off1 (i : grid0.Coords) : Fin 2 → Nat :=
  let c0_10 : Index := 0#32
  let arg0 : BitVec 32 := BitVec.ofNat 32 (i 0).val
  let c1024_i32 : BitVec 32 := 1024#32
  let v0 : BitVec 32 := Scalar.muli arg0 c1024_i32
  let v1 : BitVec 32 := v0
  let v25 : Index := Scalar.indexCast v1
  ![0, v25.toNat]
def k0_off2 (i : grid0.Coords) : Fin 2 → Nat :=
  let c1_11 : Index := 1#32
  let arg0 : BitVec 32 := BitVec.ofNat 32 (i 0).val
  let c1024_i32 : BitVec 32 := 1024#32
  let v0 : BitVec 32 := Scalar.muli arg0 c1024_i32
  let v1 : BitVec 32 := v0
  let v28 : Index := Scalar.indexCast v1
  ![1, v28.toNat]
def k0_off3 (i : grid0.Coords) : Fin 2 → Nat :=
  let c2_12 : Index := 2#32
  let arg0 : BitVec 32 := BitVec.ofNat 32 (i 0).val
  let c1024_i32 : BitVec 32 := 1024#32
  let v0 : BitVec 32 := Scalar.muli arg0 c1024_i32
  let v1 : BitVec 32 := v0
  let v31 : Index := Scalar.indexCast v1
  ![2, v31.toNat]
def k0_off4 (i : grid0.Coords) : Fin 2 → Nat :=
  let c3_13 : Index := 3#32
  let arg0 : BitVec 32 := BitVec.ofNat 32 (i 0).val
  let c1024_i32 : BitVec 32 := 1024#32
  let v0 : BitVec 32 := Scalar.muli arg0 c1024_i32
  let v1 : BitVec 32 := v0
  let v34 : Index := Scalar.indexCast v1
  ![3, v34.toNat]
def k0_off5 (i : grid0.Coords) : Fin 2 → Nat :=
  let c4 : Index := 4#32
  let arg0 : BitVec 32 := BitVec.ofNat 32 (i 0).val
  let c1024_i32 : BitVec 32 := 1024#32
  let v0 : BitVec 32 := Scalar.muli arg0 c1024_i32
  let v1 : BitVec 32 := v0
  let v37 : Index := Scalar.indexCast v1
  ![4, v37.toNat]
def k0_off6 (i : grid0.Coords) : Fin 2 → Nat :=
  let c0_19 : Index := 0#32
  let arg0 : BitVec 32 := BitVec.ofNat 32 (i 0).val
  let c1024_i32 : BitVec 32 := 1024#32
  let v0 : BitVec 32 := Scalar.muli arg0 c1024_i32
  let v1 : BitVec 32 := v0
  let v73 : Index := Scalar.indexCast v1
  ![0, v73.toNat]
@[reducible] def k0_t1_loop : Scf.Loop 32 :=
  let c0_i32_20 : BitVec 32 := 0#32
  let c512_i32 : BitVec 32 := 512#32
  let v75 : BitVec 32 := Scalar.addi c0_i32_20 c512_i32
  let c1_i32 : BitVec 32 := 1#32
  ⟨c0_i32_20, v75, c1_i32⟩
def k0_cond4 (i : grid0.Coords) : BitVec 1 :=
  let arg1 : BitVec 32 := BitVec.ofNat 32 (i 1).val
  let arg0 : BitVec 32 := BitVec.ofNat 32 (i 0).val
  let v12 : BitVec 1 := Scalar.cmpi .sgt arg1 arg0
  let v13 : BitVec 32 := Scalar.extui v12
  let c0_i32_4 : BitVec 32 := 0#32
  let v14 : BitVec 1 := Scalar.cmpi .ne v13 c0_i32_4
  v14

def k0_off7 (i : grid0.Coords) : Fin 2 → Nat :=
  let c0_13 : Index := 0#32
  let arg1 : BitVec 32 := BitVec.ofNat 32 (i 1).val
  let c1024_i32_0 : BitVec 32 := 1024#32
  let v2 : BitVec 32 := Scalar.muli arg1 c1024_i32_0
  let v3 : BitVec 32 := v2
  let v30 : Index := Scalar.indexCast v3
  ![0, v30.toNat]
def k0_off8 (i : grid0.Coords) : Fin 2 → Nat :=
  let c1_14 : Index := 1#32
  let arg1 : BitVec 32 := BitVec.ofNat 32 (i 1).val
  let c1024_i32_0 : BitVec 32 := 1024#32
  let v2 : BitVec 32 := Scalar.muli arg1 c1024_i32_0
  let v3 : BitVec 32 := v2
  let v33 : Index := Scalar.indexCast v3
  ![1, v33.toNat]
def k0_off9 (i : grid0.Coords) : Fin 2 → Nat :=
  let c2_15 : Index := 2#32
  let arg1 : BitVec 32 := BitVec.ofNat 32 (i 1).val
  let c1024_i32_0 : BitVec 32 := 1024#32
  let v2 : BitVec 32 := Scalar.muli arg1 c1024_i32_0
  let v3 : BitVec 32 := v2
  let v36 : Index := Scalar.indexCast v3
  ![2, v36.toNat]
def k0_off10 (i : grid0.Coords) : Fin 2 → Nat :=
  let c3_16 : Index := 3#32
  let arg1 : BitVec 32 := BitVec.ofNat 32 (i 1).val
  let c1024_i32_0 : BitVec 32 := 1024#32
  let v2 : BitVec 32 := Scalar.muli arg1 c1024_i32_0
  let v3 : BitVec 32 := v2
  let v39 : Index := Scalar.indexCast v3
  ![3, v39.toNat]
def k0_off11 (i : grid0.Coords) : Fin 2 → Nat :=
  let c4 : Index := 4#32
  let arg1 : BitVec 32 := BitVec.ofNat 32 (i 1).val
  let c1024_i32_0 : BitVec 32 := 1024#32
  let v2 : BitVec 32 := Scalar.muli arg1 c1024_i32_0
  let v3 : BitVec 32 := v2
  let v42 : Index := Scalar.indexCast v3
  ![4, v42.toNat]
def k0_off12 (i : grid0.Coords) : Fin 2 → Nat :=
  let c0_23 : Index := 0#32
  let arg1 : BitVec 32 := BitVec.ofNat 32 (i 1).val
  let c1024_i32_0 : BitVec 32 := 1024#32
  let v2 : BitVec 32 := Scalar.muli arg1 c1024_i32_0
  let v3 : BitVec 32 := v2
  let v75 : Index := Scalar.indexCast v3
  ![0, v75.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S5x5120 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x6 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x5 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ReferenceIdeal.lean ====
abbrev S5000x4 : Shape := ⟨2, ![5000, 4]⟩
abbrev S5000 : Shape := ⟨1, ![5000]⟩
abbrev S_ : Shape := ⟨0, ![]⟩
abbrev S5000x1 : Shape := ⟨2, ![5000, 1]⟩
abbrev S1 : Shape := ⟨1, ![1]⟩
abbrev S1x1 : Shape := ⟨2, ![1, 1]⟩
abbrev S5000x2 : Shape := ⟨2, ![5000, 2]⟩
abbrev S5000x1x2 : Shape := ⟨3, ![5000, 1, 2]⟩
abbrev S1x5000x2 : Shape := ⟨3, ![1, 5000, 2]⟩
abbrev S5000x5000x2 : Shape := ⟨3, ![5000, 5000, 2]⟩
abbrev S5000x5000x1 : Shape := ⟨3, ![5000, 5000, 1]⟩
abbrev S5000x5000 : Shape := ⟨2, ![5000, 5000]⟩
abbrev S1x5000 : Shape := ⟨2, ![1, 5000]⟩
abbrev S5000x5 : Shape := ⟨2, ![5000, 5]⟩

abbrev nBuf : Space → Nat
  | .hbm => 158
  | .vmem => 0
  | .smem => 0
  | _ => 0

abbrev hbmTy0_0 (i : Nat) : BufTy := match i % 128 with
  | 0 => ⟨S5000x4, .f32⟩
  | 1 => ⟨S5000, .f32⟩
  | 2 => ⟨S5000, .f32⟩
  | 3 => ⟨S5000, .i32⟩
  | 4 => ⟨S5000, .f32⟩
  | 5 => ⟨S5000, .i32⟩
  | 6 => ⟨S_, .i32⟩
  | 7 => ⟨S5000, .i32⟩
  | 8 => ⟨S5000, .i1⟩
  | 9 => ⟨S_, .i32⟩
  | 10 => ⟨S5000, .i32⟩
  | 11 => ⟨S5000, .i32⟩
  | 12 => ⟨S5000, .i32⟩
  | 13 => ⟨S5000x1, .i32⟩
  | 14 => ⟨S1, .i32⟩
  | 15 => ⟨S_, .i32⟩
  | 16 => ⟨S5000x1, .i32⟩
  | 17 => ⟨S5000x1, .i1⟩
  | 18 => ⟨S1x1, .i32⟩
  | 19 => ⟨S5000x1, .i32⟩
  | 20 => ⟨S5000x1, .i1⟩
  | 21 => ⟨S5000x1, .i1⟩
  | 22 => ⟨S_, .i1⟩
  | 23 => ⟨S5000, .i1⟩
  | 24 => ⟨S5000x4, .f32⟩
  | 25 => ⟨S5000x4, .i1⟩
  | 26 => ⟨S_, .f32⟩
  | 27 => ⟨S5000x4, .f32⟩
  | 28 => ⟨S5000x4, .f32⟩
  | 29 => ⟨S_, .i32⟩
  | 30 => ⟨S5000, .i32⟩
  | 31 => ⟨S5000, .i1⟩
  | 32 => ⟨S_, .i32⟩
  | 33 => ⟨S5000, .i32⟩
  | 34 => ⟨S5000, .i32⟩
  | 35 => ⟨S5000, .i32⟩
  | 36 => ⟨S5000x1, .i32⟩
  | 37 => ⟨S1, .i32⟩
  | 38 => ⟨S_, .i32⟩
  | 39 => ⟨S5000x1, .i32⟩
  | 40 => ⟨S5000x1, .i1⟩
  | 41 => ⟨S1x1, .i32⟩
  | 42 => ⟨S5000x1, .i32⟩
  | 43 => ⟨S5000x1, .i1⟩
  | 44 => ⟨S5000x1, .i1⟩
  | 45 => ⟨S_, .i1⟩
  | 46 => ⟨S5000, .i1⟩
  | 47 => ⟨S5000, .f32⟩
  | 48 => ⟨S_, .f32⟩
  | 49 => ⟨S5000, .f32⟩
  | 50 => ⟨S5000, .f32⟩
  | 51 => ⟨S5000x1, .f32⟩
  | 52 => ⟨S5000, .f32⟩
  | 53 => ⟨S5000x1, .f32⟩
  | 54 => ⟨S5000, .f32⟩
  | 55 => ⟨S5000, .f32⟩
  | 56 => ⟨S5000x1, .f32⟩
  | 57 => ⟨S5000, .f32⟩
  | 58 => ⟨S5000x1, .f32⟩
  | 59 => ⟨S5000, .f32⟩
  | 60 => ⟨S5000, .f32⟩
  | 61 => ⟨S5000, .f32⟩
  | 62 => ⟨S5000x1, .f32⟩
  | 63 => ⟨S5000, .f32⟩
  | 64 => ⟨S5000x1, .f32⟩
  | 65 => ⟨S5000, .f32⟩
  | 66 => ⟨S5000, .f32⟩
  | 67 => ⟨S5000x1, .f32⟩
  | 68 => ⟨S5000, .f32⟩
  | 69 => ⟨S5000x1, .f32⟩
  | 70 => ⟨S5000, .f32⟩
  | 71 => ⟨S5000, .f32⟩
  | 72 => ⟨S5000, .f32⟩
  | 73 => ⟨S5000x2, .f32⟩
  | 74 => ⟨S5000x1x2, .f32⟩
  | 75 => ⟨S5000x2, .f32⟩
  | 76 => ⟨S1x5000x2, .f32⟩
  | 77 => ⟨S5000x5000x2, .f32⟩
  | 78 => ⟨S5000x5000x2, .f32⟩
  | 79 => ⟨S5000x5000x2, .f32⟩
  | 80 => ⟨S5000x2, .f32⟩
  | 81 => ⟨S5000x1x2, .f32⟩
  | 82 => ⟨S5000x2, .f32⟩
  | 83 => ⟨S1x5000x2, .f32⟩
  | 84 => ⟨S5000x5000x2, .f32⟩
  | 85 => ⟨S5000x5000x2, .f32⟩
  | 86 => ⟨S5000x5000x2, .f32⟩
  | 87 => ⟨S5000x5000x2, .f32⟩
  | 88 => ⟨S_, .f32⟩
  | 89 => ⟨S_, .f32⟩
  | 90 => ⟨S5000x5000x2, .f32⟩
  | 91 => ⟨S5000x5000x2, .f32⟩
  | 92 => ⟨S5000x5000x1, .f32⟩
  | 93 => ⟨S5000x5000, .f32⟩
  | 94 => ⟨S5000x5000x1, .f32⟩
  | 95 => ⟨S5000x5000, .f32⟩
  | 96 => ⟨S5000x5000, .f32⟩
  | 97 => ⟨S5000x1, .f32⟩
  | 98 => ⟨S1x5000, .f32⟩
  | 99 => ⟨S5000x5000, .f32⟩
  | 100 => ⟨S5000x5000, .f32⟩
  | 101 => ⟨S5000x5000, .f32⟩
  | 102 => ⟨S5000x5000, .f32⟩
  | 103 => ⟨S_, .f32⟩
  | 104 => ⟨S5000x5000, .f32⟩
  | 105 => ⟨S5000x5000, .f32⟩
  | 106 => ⟨S5000x5000, .f32⟩
  | 107 => ⟨S5000, .i32⟩
  | 108 => ⟨S_, .i1⟩
  | 109 => ⟨S5000, .i1⟩
  | 110 => ⟨S_, .i32⟩
  | 111 => ⟨S_, .i32⟩
  | 112 => ⟨S5000x5000, .f32⟩
  | 113 => ⟨S5000, .i32⟩
  | 114 => ⟨S_, .i32⟩
  | 115 => ⟨S_, .i32⟩
  | 116 => ⟨S5000, .i1⟩
  | 117 => ⟨S_, .i32⟩
  | 118 => ⟨S_, .i1⟩
  | 119 => ⟨S_, .i32⟩
  | 120 => ⟨S_, .i32⟩
  | 121 => ⟨S_, .i32⟩
  | 122 => ⟨S_, .i1⟩
  | 123 => ⟨S_, .i32⟩
  | 124 => ⟨S_, .i32⟩
  | 125 => ⟨S_, .i32⟩
  | 126 => ⟨S_, .i32⟩
  | 127 => ⟨S_, .i32⟩
  | _ => ⟨S5000x4, .f32⟩

abbrev hbmTy0_1 (i : Nat) : BufTy := match i % 128 with
  | 0 => ⟨S1x5000, .f32⟩
  | 1 => ⟨S5000, .f32⟩
  | 2 => ⟨S_, .i32⟩
  | 3 => ⟨S_, .i1⟩
  | 4 => ⟨S_, .i32⟩
  | 5 => ⟨S_, .i32⟩
  | 6 => ⟨S_, .i32⟩
  | 7 => ⟨S_, .i32⟩
  | 8 => ⟨S1, .i1⟩
  | 9 => ⟨S_, .i1⟩
  | 10 => ⟨S_, .f32⟩
  | 11 => ⟨S5000, .f32⟩
  | 12 => ⟨S5000, .i1⟩
  | 13 => ⟨S5000, .i1⟩
  | 14 => ⟨S5000, .i1⟩
  | 15 => ⟨S_, .i32⟩
  | 16 => ⟨S5000, .i32⟩
  | 17 => ⟨S5000, .i1⟩
  | 18 => ⟨S5000, .i1⟩
  | 19 => ⟨S5000, .i1⟩
  | 20 => ⟨S5000, .i1⟩
  | 21 => ⟨S_, .i32⟩
  | 22 => ⟨S_, .i32⟩
  | 23 => ⟨S5000, .f32⟩
  | 24 => ⟨S5000x1, .f32⟩
  | 25 => ⟨S5000x4, .f32⟩
  | 26 => ⟨S5000x4, .f32⟩
  | 27 => ⟨S5000, .f32⟩
  | 28 => ⟨S5000x1, .f32⟩
  | 29 => ⟨S5000x5, .f32⟩
  | _ => ⟨S5000x4, .f32⟩

abbrev hbmTy (i : Nat) : BufTy := match i / 128 with
  | 0 => hbmTy0_0 i
  | 1 => hbmTy0_1 i
  | _ => ⟨S5000x4, .f32⟩

abbrev bufTy : (tb : Table) → Fin (tcTables nBuf tb) → BufTy
  | .hbm, ⟨i, _⟩ => hbmTy i
  | _, _ => ⟨S5000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_v1_0 : Ref sig .tc := ⟨.hbm, 4, rfl⟩
abbrev main_v1 : Ref sig .tc := ⟨.hbm, 5, rfl⟩
abbrev main_call1_c : Ref sig .tc := ⟨.hbm, 6, rfl⟩
abbrev main_call1_v0 : Ref sig .tc := ⟨.hbm, 7, rfl⟩
abbrev main_call1_v1 : Ref sig .tc := ⟨.hbm, 8, rfl⟩
abbrev main_call1_c_0 : Ref sig .tc := ⟨.hbm, 9, rfl⟩
abbrev main_call1_v2 : Ref sig .tc := ⟨.hbm, 10, rfl⟩
abbrev main_call1_v3 : Ref sig .tc := ⟨.hbm, 11, rfl⟩
abbrev main_call1_v4 : Ref sig .tc := ⟨.hbm, 12, rfl⟩
abbrev main_call1_v5 : Ref sig .tc := ⟨.hbm, 13, rfl⟩
abbrev main_call1_c_1 : Ref sig .tc := ⟨.hbm, 14, rfl⟩
abbrev main_call1_c_2 : Ref sig .tc := ⟨.hbm, 15, rfl⟩
abbrev main_call1_v6 : Ref sig .tc := ⟨.hbm, 16, rfl⟩
abbrev main_call1_v7 : Ref sig .tc := ⟨.hbm, 17, rfl⟩
abbrev main_call1_v8 : Ref sig .tc := ⟨.hbm, 18, rfl⟩
abbrev main_call1_v9 : Ref sig .tc := ⟨.hbm, 19, rfl⟩
abbrev main_call1_v10 : Ref sig .tc := ⟨.hbm, 20, rfl⟩
abbrev main_call1_v11 : Ref sig .tc := ⟨.hbm, 21, rfl⟩
abbrev main_call1_c_3 : Ref sig .tc := ⟨.hbm, 22, rfl⟩
abbrev main_call1_v12 : Ref sig .tc := ⟨.hbm, 23, rfl⟩
abbrev main_call1_v13 : Ref sig .tc := ⟨.hbm, 24, rfl⟩
abbrev main_call1_v14 : Ref sig .tc := ⟨.hbm, 25, rfl⟩
abbrev main_call1_cst : Ref sig .tc := ⟨.hbm, 26, rfl⟩
abbrev main_call1_v15 : Ref sig .tc := ⟨.hbm, 27, rfl⟩
abbrev main_v2 : Ref sig .tc := ⟨.hbm, 28, rfl⟩
abbrev main_call2_c : Ref sig .tc := ⟨.hbm, 29, rfl⟩
abbrev main_call2_v0 : Ref sig .tc := ⟨.hbm, 30, rfl⟩
abbrev main_call2_v1 : Ref sig .tc := ⟨.hbm, 31, rfl⟩
abbrev main_call2_c_0 : Ref sig .tc := ⟨.hbm, 32, rfl⟩
abbrev main_call2_v2 : Ref sig .tc := ⟨.hbm, 33, rfl⟩
abbrev main_call2_v3 : Ref sig .tc := ⟨.hbm, 34, rfl⟩
abbrev main_call2_v4 : Ref sig .tc := ⟨.hbm, 35, rfl⟩
abbrev main_call2_v5 : Ref sig .tc := ⟨.hbm, 36, rfl⟩
abbrev main_call2_c_1 : Ref sig .tc := ⟨.hbm, 37, rfl⟩
abbrev main_call2_c_2 : Ref sig .tc := ⟨.hbm, 38, rfl⟩
abbrev main_call2_v6 : Ref sig .tc := ⟨.hbm, 39, rfl⟩
abbrev main_call2_v7 : Ref sig .tc := ⟨.hbm, 40, rfl⟩
abbrev main_call2_v8 : Ref sig .tc := ⟨.hbm, 41, rfl⟩
abbrev main_call2_v9 : Ref sig .tc := ⟨.hbm, 42, rfl⟩
abbrev main_call2_v10 : Ref sig .tc := ⟨.hbm, 43, rfl⟩
abbrev main_call2_v11 : Ref sig .tc := ⟨.hbm, 44, rfl⟩
abbrev main_call2_c_3 : Ref sig .tc := ⟨.hbm, 45, rfl⟩
abbrev main_call2_v12 : Ref sig .tc := ⟨.hbm, 46, rfl⟩
abbrev main_call2_v13 : Ref sig .tc := ⟨.hbm, 47, rfl⟩
abbrev main_call2_cst : Ref sig .tc := ⟨.hbm, 48, rfl⟩
abbrev main_call2_v14 : Ref sig .tc := ⟨.hbm, 49, rfl⟩
abbrev main_v3 : Ref sig .tc := ⟨.hbm, 50, rfl⟩
abbrev main_v4 : Ref sig .tc := ⟨.hbm, 51, rfl⟩
abbrev main_v5 : Ref sig .tc := ⟨.hbm, 52, rfl⟩
abbrev main_v6 : Ref sig .tc := ⟨.hbm, 53, rfl⟩
abbrev main_v7 : Ref sig .tc := ⟨.hbm, 54, rfl⟩
abbrev main_v8 : Ref sig .tc := ⟨.hbm, 55, rfl⟩
abbrev main_v9 : Ref sig .tc := ⟨.hbm, 56, rfl⟩
abbrev main_v10 : Ref sig .tc := ⟨.hbm, 57, rfl⟩
abbrev main_v11 : Ref sig .tc := ⟨.hbm, 58, rfl⟩
abbrev main_v12 : Ref sig .tc := ⟨.hbm, 59, rfl⟩
abbrev main_v13 : Ref sig .tc := ⟨.hbm, 60, rfl⟩
abbrev main_v14 : Ref sig .tc := ⟨.hbm, 61, rfl⟩
abbrev main_v15 : Ref sig .tc := ⟨.hbm, 62, rfl⟩
abbrev main_v16 : Ref sig .tc := ⟨.hbm, 63, rfl⟩
abbrev main_v17 : Ref sig .tc := ⟨.hbm, 64, rfl⟩
abbrev main_v18 : Ref sig .tc := ⟨.hbm, 65, rfl⟩
abbrev main_v19 : Ref sig .tc := ⟨.hbm, 66, rfl⟩
abbrev main_v20 : Ref sig .tc := ⟨.hbm, 67, rfl⟩
abbrev main_v21 : Ref sig .tc := ⟨.hbm, 68, rfl⟩
abbrev main_v22 : Ref sig .tc := ⟨.hbm, 69, rfl⟩
abbrev main_v23 : Ref sig .tc := ⟨.hbm, 70, rfl⟩
abbrev main_v24 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_cst : Ref sig .tc := ⟨.hbm, 88, rfl⟩
abbrev main_call3_v0 : Ref sig .tc := ⟨.hbm, 89, rfl⟩
abbrev main_call3_v1 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_cst_0 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_c : Ref sig .tc := ⟨.hbm, 108, rfl⟩
abbrev main_v57 : Ref sig .tc := ⟨.hbm, 109, rfl⟩
abbrev main_c_1 : Ref sig .tc := ⟨.hbm, 110, rfl⟩
abbrev main_c_2 : Ref sig .tc := ⟨.hbm, 111, rfl⟩
abbrev main_v58_0 : Ref sig .tc := ⟨.hbm, 112, rfl⟩
abbrev main_v58_1 : Ref sig .tc := ⟨.hbm, 113, rfl⟩
abbrev main_v58_2 : Ref sig .tc := ⟨.hbm, 114, rfl⟩
abbrev main_v58_3 : Ref sig .tc := ⟨.hbm, 115, rfl⟩
abbrev main_v58_4 : Ref sig .tc := ⟨.hbm, 116, rfl⟩
abbrev main_while0c_c_7 : Ref sig .tc := ⟨.hbm, 117, rfl⟩
abbrev main_while0c_v66 : Ref sig .tc := ⟨.hbm, 118, rfl⟩
abbrev main_while0b_c_7 : Ref sig .tc := ⟨.hbm, 119, rfl⟩
abbrev main_while0b_v66 : Ref sig .tc := ⟨.hbm, 120, rfl⟩
abbrev main_while0b_call4_c : Ref sig .tc := ⟨.hbm, 121, rfl⟩
abbrev main_while0b_call4_v0 : Ref sig .tc := ⟨.hbm, 122, rfl⟩
abbrev main_while0b_call4_v1 : Ref sig .tc := ⟨.hbm, 123, rfl⟩
abbrev main_while0b_call4_c_0 : Ref sig .tc := ⟨.hbm, 124, rfl⟩
abbrev main_while0b_call4_v2 : Ref sig .tc := ⟨.hbm, 125, rfl⟩
abbrev main_while0b_call4_v3 : Ref sig .tc := ⟨.hbm, 126, rfl⟩
abbrev main_while0b_call4_c_1 : Ref sig .tc := ⟨.hbm, 127, rfl⟩
abbrev main_while0b_call4_v4 : Ref sig .tc := ⟨.hbm, 128, rfl⟩
abbrev main_while0b_v67 : Ref sig .tc := ⟨.hbm, 129, rfl⟩
abbrev main_while0b_call5_c : Ref sig .tc := ⟨.hbm, 130, rfl⟩
abbrev main_while0b_call5_v0 : Ref sig .tc := ⟨.hbm, 131, rfl⟩
abbrev main_while0b_call5_v1 : Ref sig .tc := ⟨.hbm, 132, rfl⟩
abbrev main_while0b_call5_c_0 : Ref sig .tc := ⟨.hbm, 133, rfl⟩
abbrev main_while0b_call5_v2 : Ref sig .tc := ⟨.hbm, 134, rfl⟩
abbrev main_while0b_call5_v3 : Ref sig .tc := ⟨.hbm, 135, rfl⟩
abbrev main_while0b_call5_v4 : Ref sig .tc := ⟨.hbm, 136, rfl⟩
abbrev main_while0b_v68 : Ref sig .tc := ⟨.hbm, 137, rfl⟩
abbrev main_while0b_cst_8 : Ref sig .tc := ⟨.hbm, 138, rfl⟩
abbrev main_while0b_v69 : Ref sig .tc := ⟨.hbm, 139, rfl⟩
abbrev main_while0b_v70 : Ref sig .tc := ⟨.hbm, 140, rfl⟩
abbrev main_while0b_v71 : Ref sig .tc := ⟨.hbm, 141, rfl⟩
abbrev main_while0b_v72 : Ref sig .tc := ⟨.hbm, 142, rfl⟩
abbrev main_while0b_v73 : Ref sig .tc := ⟨.hbm, 143, rfl⟩
abbrev main_while0b_v74 : Ref sig .tc := ⟨.hbm, 144, rfl⟩
abbrev main_while0b_v75 : Ref sig .tc := ⟨.hbm, 145, rfl⟩
abbrev main_while0b_v76 : Ref sig .tc := ⟨.hbm, 146, rfl⟩
abbrev main_while0b_v77 : Ref sig .tc := ⟨.hbm, 147, rfl⟩
abbrev main_while0b_v78 : Ref sig .tc := ⟨.hbm, 148, rfl⟩
abbrev main_while0b_c_9 : Ref sig .tc := ⟨.hbm, 149, rfl⟩
abbrev main_while0b_v79 : Ref sig .tc := ⟨.hbm, 150, rfl⟩
abbrev main_v59 : Ref sig .tc := ⟨.hbm, 151, rfl⟩
abbrev main_v60 : Ref sig .tc := ⟨.hbm, 152, rfl⟩
abbrev main_v61 : Ref sig .tc := ⟨.hbm, 153, rfl⟩
abbrev main_v62 : Ref sig .tc := ⟨.hbm, 154, rfl⟩
abbrev main_v63 : Ref sig .tc := ⟨.hbm, 155, rfl⟩
abbrev main_v64 : Ref sig .tc := ⟨.hbm, 156, rfl⟩
abbrev main_v65 : Ref sig .tc := ⟨.hbm, 157, rfl⟩

abbrev nD : Nat := 1
abbrev τ : Topo := Topo.v7x

variable {F : FTy → Type} [FloatOps F]

abbrev main_while0_count : Scf.Loop 32 := ⟨0#32, 5000#32, 1#32⟩
-- ==== Proof.KernelIdeal.Body.lean ====
/- What one call of the kernel body computes, as plain functions of vectors: the block's overlap matrix, the sweeps that
   settle which boxes of the block survive, the survivors written back into the row of flags, and the flags a later
   block keeps. Then the invariant of the body's one loop. -/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Pipeline.TableIdle
public import Idealize.ShloMosaic.Lib.VecWindow

@[expose] public section

set_option maxRecDepth 16384

noncomputable section

namespace Cert.KernelIdeal.Nms

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- Column `q` of a block of rows. -/
abbrev colAt (x1 : Vec F S1024x6 .f32) (q : ℕ) (h : ∀ a, (![0, q] : Fin 2 → ℕ) a + S1024x1.size a ≤ S1024x6.size a) :
    Vec F S1024x1 .f32 := VecWindow.window (s := S1024x6) x1 ![0, q] S1024x1.size h

/-- The first five columns of a block of rows. -/
abbrev cols5 (x1 : Vec F S1024x6 .f32) : Vec F S1024x5 .f32 :=
  VecWindow.window (s := S1024x6) x1 ![0, 0] S1024x5.size inb_S1024x6_S1024x5_0_0

/-- Sizes-`1 × 1024` window of the table of columns. -/
abbrev rowAt (x0 : Vec F S5x5120 .f32) (off : Fin 2 → ℕ) (h : ∀ a, off a + S1x1024.size a ≤ S5x5120.size a) :
    Vec F S1x1024 .f32 := VecWindow.window (s := S5x5120) x0 off S1x1024.size h

/-- The overlap matrix of the diagonal block: entry `(r, c)` is one when `r` comes before `c` and the two boxes overlap. -/
def diagS (i : grid0.Coords) (h : k0_cond2 i = 1#1) (x0 : Vec F S5x5120 .f32) (x1 : Vec F S1024x6 .f32) : Vec F S1024x1024 .f32 :=
  k0_pay2 (k0_pay11 (colAt x1 5 inb_S1024x6_S1024x1_0_5)) (k0_pay12 (rowAt x0 (k0_off5 i) (k0_off5_inb i h)))
    (k0_pay13 (colAt x1 0 inb_S1024x6_S1024x1_0_0) (colAt x1 1 inb_S1024x6_S1024x1_0_1) (colAt x1 2 inb_S1024x6_S1024x1_0_2)
      (colAt x1 3 inb_S1024x6_S1024x1_0_3) (rowAt x0 (k0_off1 i) (k0_off1_inb i h)) (rowAt x0 (k0_off2 i) (k0_off2_inb i h))
      (rowAt x0 (k0_off3 i) (k0_off3_inb i h)) (rowAt x0 (k0_off4 i) (k0_off4_inb i h)))
    (k0_pay14 (F := F))

/-- One trip of the loop: two sweeps while the flag is up, nothing once it is down. -/
def sweep (S : Vec F S1024x1024 .f32) (v : Vec F S1x1024 .f32) (acc : Vec F S1x1024 .f32 × BitVec 1) : Vec F S1x1024 .f32 × BitVec 1 :=
  if Scalar.cmpi .ne (Scalar.extui acc.2 : BitVec 32) 0#32 = 1#1 then
    (k0_pay4 v acc.1 S S, Scalar.cmpf .ogt (k0_pay5 v acc.1 S S) (Scalar.ofBits .f32 0x00000000#32))
  else acc

/-- The carried pair before trip `n`. -/
def sweeps (S : Vec F S1024x1024 .f32) (v : Vec F S1x1024 .f32) : ℕ → Vec F S1x1024 .f32 × BitVec 1
  | 0 => (v, 1#1)
  | n + 1 => sweep S v (sweeps S v n)

/-- The flags of the diagonal block as the body finds them. -/
abbrev keepIn (i : grid0.Coords) (h : k0_cond2 i = 1#1) (xs : Vec F S1x5120 .f32) : Vec F S1x1024 .f32 :=
  VecWindow.window (s := S1x5120) xs (k0_off6 i) S1x1024.size (k0_off6_inb i h)

/-- The flags of the diagonal block once settled. -/
def settled (i : grid0.Coords) (h : k0_cond2 i = 1#1) (x0 : Vec F S5x5120 .f32) (x1 : Vec F S1024x6 .f32) (xs : Vec F S1x5120 .f32) :
    Vec F S1x1024 .f32 := (sweeps (diagS i h x0 x1) (keepIn i h xs) k0_t1_loop.trips).1

/-- All the flags after a diagonal point. -/
def diagKeep (i : grid0.Coords) (h : k0_cond2 i = 1#1) (x0 : Vec F S5x5120 .f32) (x1 : Vec F S1024x6 .f32) (xs : Vec F S1x5120 .f32) :
    Vec F S1x5120 .f32 := VecWindow.put (s := S1x5120) xs (k0_off6 i) S1x1024.size (k0_pay6 (settled i h x0 x1 xs))

/-- The flags a later block keeps, once the settled block `kc` has struck out what it overlaps. -/
def tailFlags (i : grid0.Coords) (h : k0_cond4 i = 1#1) (x0 : Vec F S5x5120 .f32) (x1 : Vec F S1024x6 .f32) (xs : Vec F S1x5120 .f32)
    (kc : Vec F S1024x1 .f32) : Vec F S1x1024 .f32 :=
  k0_pay10 (k0_pay15 (colAt x1 1 inb_S1024x6_S1024x1_0_1)) (k0_pay16 (colAt x1 5 inb_S1024x6_S1024x1_0_5))
    (k0_pay17 (rowAt x0 (k0_off8 i) (k0_off8_inb i h))) (k0_pay18 (rowAt x0 (k0_off10 i) (k0_off10_inb i h)))
    (k0_pay19 (rowAt x0 (k0_off11 i) (k0_off11_inb i h)))
    (k0_pay20 kc (colAt x1 0 inb_S1024x6_S1024x1_0_0) (colAt x1 2 inb_S1024x6_S1024x1_0_2) (rowAt x0 (k0_off7 i) (k0_off7_inb i h))
      (rowAt x0 (k0_off9 i) (k0_off9_inb i h)))
    (k0_pay21 (colAt x1 3 inb_S1024x6_S1024x1_0_3))
    (VecWindow.window (s := S1x5120) xs (k0_off12 i) S1x1024.size (k0_off12_inb i h))

/-- All the flags after a point right of the diagonal. -/
def tailKeep (i : grid0.Coords) (h : k0_cond4 i = 1#1) (x0 : Vec F S5x5120 .f32) (x1 : Vec F S1024x6 .f32) (xs : Vec F S1x5120 .f32)
    (kc : Vec F S1024x1 .f32) : Vec F S1x5120 .f32 :=
  VecWindow.put (s := S1x5120) xs (k0_off12 i) S1x1024.size (tailFlags i h x0 x1 xs kc)

/-- What the loop's region loads of the overlap matrix held at `f`. -/
abbrev matAt (arg5 : Memref sig .tc .vmem S1024x1024 .f32) (f : arg5.view.ty.Contents (Elt F)) : Vec F S1024x1024 .f32 :=
  arg5.view.readAt (Elt F) (Rect.unit (s := S1024x1024) ![0, 0] S1024x1024.size inb_S1024x1024_S1024x1024_0_0).toLoadRect f

set_option warn.classDefReducibility false in
set_option maxHeartbeats 1000000 in
/-- The loop's invariant: the overlap matrix stays as it is, and before trip `k` the carried pair is `sweeps k`. -/
@[sl_loop] noncomputable def loopInv (c : Dev nD) (i : grid0.Coords) (arg2 : Memref sig .tc .vmem S5x5120 .f32) (harg2 : arg2.IsWhole) (arg3 : Memref sig .tc .vmem S1024x6 .f32) (harg3 : arg3.IsWhole) (arg4 : Memref sig .tc .vmem S1024x5 .f32) (harg4 : arg4.IsWhole) (arg5 : Memref sig .tc .vmem S1024x1024 .f32) (harg5 : arg5.IsWhole) (arg6 : Memref sig .tc .vmem S1x5120 .f32) (harg6 : arg6.IsWhole) (arg7 : Memref sig .tc .vmem S1024x1 .f32) (harg7 : arg7.IsWhole) (k0_h2 : k0_cond2 i = 1#1) (v74 : Vec F S1x1024 .f32)
    (f5 : arg5.view.ty.Contents (Elt F)) :
    LoopInvTy_k0_t1 (F := F) Unit ℕ (UR sig nD τ) ℕ Variants.none c none Set.univ i arg2 harg2 arg3 harg3 arg4 harg4 arg5 harg5 arg6 harg6 arg7 harg7 k0_h2 v74 (v74, 1#1) where
  inv := fun k acc => iprop((arg5.view.loc (c : Thread nD τ) ↦[arg5.view.set]{fullShare} f5) ∗ ⌜acc = sweeps (matAt arg5 f5) v74 k⌝)
  step := fun k acc => by
    obtain ⟨a, b⟩ := acc
    unfold k0_t1_body
    iintro ⟨H, %hacc⟩
    by_cases hb : Scalar.cmpi .ne (Scalar.extui b : BitVec 32) 0#32 = 1#1
    · sl_exec (disch := sl_exact hb)
      sl_step
      isplitl [H]; · iexact H
      ipureintro
      show _ = sweep _ _ (sweeps _ _ k.val)
      rw [← hacc]; unfold sweep; rw [if_pos hb]
      sl_unfold_words; rfl
    · sl_exec (disch := sl_exact hb)
      sl_step
      isplitl [H]; · iexact H
      ipureintro
      show _ = sweep _ _ (sweeps _ _ k.val)
      rw [← hacc]; unfold sweep; rw [if_neg hb]

end Cert.KernelIdeal.Nms

end
-- ==== Proof.KernelIdeal.Run.lean ====
/- The kernel body's run in each of its four cases — the first point, a later diagonal point, a point right of the
   diagonal, a point left of it —, what each leaves in the staged blocks and in the scratch stated by the functions of
   Body.lean. -/
module

public import proofs.«01_k».proof.Proof.KernelIdeal.Body
public import Idealize.ShloMosaic.Lib.Ring
public import Idealize.ShloMosaic.Lib.WordCmp
public import Idealize.ShloMosaic.Lib.Pipeline.ValueKit.Basic

@[expose] public section

set_option maxRecDepth 16384

noncomputable section

namespace Cert.KernelIdeal.Nms

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The body's first condition: this is the grid's first point. -/
abbrev cond1 (i : grid0.Coords) : Prop := (Scalar.cmpi .ne (Scalar.extui (Scalar.andi (Scalar.cmpi .eq (BitVec.ofNat 32 (i 0).val) 0#32) (Scalar.cmpi .eq (BitVec.ofNat 32 (i 1).val) 0#32)) : BitVec 32) 0#32) = 1#1

/-- A matrix just stored whole is what the loop's region loads. -/
theorem matAt_store (arg5 : Memref sig .tc .vmem S1024x1024 .f32) (f : arg5.view.ty.Contents (Elt F))
    (h : ∀ a, (![0, 0] : Fin 2 → ℕ) a + (![1024, 1024] : Fin 2 → ℕ) a ≤ S1024x1024.size a) (w : Vec F S1024x1024 .f32)
    (L : List (View.Piece (Elt F) S1024x1024 .f32)) :
    matAt arg5 (arg5.view.writes (Elt F) f (⟨Rect.unit (s := S1024x1024) ![0, 0] ![1024, 1024] h, w⟩ :: L)) = w :=
  View.readAt_writes_full arg5.view f _ h w L

/-- A row of flags just stored whole reads back. -/
theorem row_store (arg6 : Memref sig .tc .vmem S1x5120 .f32) (f : arg6.view.ty.Contents (Elt F))
    (h : ∀ a, (![0, 0] : Fin 2 → ℕ) a + (![1, 5120] : Fin 2 → ℕ) a ≤ S1x5120.size a) (w : Vec F S1x5120 .f32) :
    arg6.view.read (Elt F) (arg6.view.writes (Elt F) f [⟨Rect.unit (s := S1x5120) ![0, 0] ![1, 5120] h, w⟩]) = w :=
  View.read_writes_full arg6.view f h w []

/-- The whole column, read as a window of itself. -/
theorem col_whole (kc : Vec F S1024x1 .f32)
    (h : ∀ a, (![0, 0] : Fin 2 → ℕ) a + (![1024, 1] : Fin 2 → ℕ) a ≤ S1024x1.size a) :
    View.ld (Val := Elt F) kc (Rect.unit (s := S1024x1) ![0, 0] ![1024, 1] h) = kc :=
  View.ld_unit_zero (S := S1024x1) (by funext a; fin_cases a <;> rfl) h kc

set_option maxHeartbeats 2000000 in
/-- A diagonal point but the first, from the flags `xs`. -/
theorem run_diag (c : Dev nD) (i : grid0.Coords) (arg2 : Memref sig .tc .vmem S5x5120 .f32) (harg2 : arg2.IsWhole) (arg3 : Memref sig .tc .vmem S1024x6 .f32) (harg3 : arg3.IsWhole) (arg4 : Memref sig .tc .vmem S1024x5 .f32) (harg4 : arg4.IsWhole) (arg5 : Memref sig .tc .vmem S1024x1024 .f32) (harg5 : arg5.IsWhole) (arg6 : Memref sig .tc .vmem S1x5120 .f32) (harg6 : arg6.IsWhole) (arg7 : Memref sig .tc .vmem S1024x1 .f32) (harg7 : arg7.IsWhole)
    (hc0 : ¬cond1 i) (hc1 : k0_cond2 i = 1#1) (hc2 : ¬k0_cond4 i = 1#1)
    (x0 : Vec F S5x5120 .f32) (x1 : Vec F S1024x6 .f32) (xs : Vec F S1x5120 .f32) (K : PUnit → sProp 𝕄) :
    iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare xs ∗ (∃ d, owns (c : Thread nD τ) arg7 fullShare d)
        ∗ (iprop(owns (c : Thread nD τ) arg2 fullShare x0 ∗ owns (c : Thread nD τ) arg3 fullShare x1 ∗ owns (c : Thread nD τ) arg4 fullShare (k0_pay9 (settled i hc1 x0 x1 xs) (cols5 x1)) ∗ (∃ d, owns (c : Thread nD τ) arg5 fullShare d) ∗ owns (c : Thread nD τ) arg6 fullShare (diagKeep i hc1 x0 x1 xs) ∗ owns (c : Thread nD τ) arg7 fullShare (k0_pay8 (settled i hc1 x0 x1 xs))) -∗ K ⟨⟩))
      ⊢ wp frame (wpE (defs₀ (F := F)) Variants.none c none) Set.univ (cc0__nms_body i arg2 harg2 arg3 harg3 arg4 harg4 arg5 harg5 arg6 harg6 arg7 harg7) K := by
  simp only [cc0__nms_body_eq_skeleton]; unfold cc0__nms_body_skel
  simp only [k0_part1_eq_skeleton]
  unfold owns
  iintro ⟨⟨%f0, %hf0, H0⟩, ⟨%f1, %hf1, H1⟩, ⟨%d2, %f2, -, H2⟩, ⟨%ds0, %fs0, -, HS0⟩, ⟨%fs1, %hfs1, HS1⟩, ⟨%ds2, %fs2, -, HS2⟩, Hk⟩
  obtain rfl := harg2.eq_unread hf0; obtain rfl := harg3.eq_unread hf1; obtain rfl := harg6.eq_unread hfs1
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro
    sl_unfold_words; refine (View.read_writes_full _ _ _ _ _).trans ?_; simp only [matAt_store]; simp only [View.readAt_eq_ld, harg2.read_unread, harg3.read_unread, harg6.read_unread, View.writes_nil, row_store]; (try unfold diagKeep); unfold settled diagS; rfl
  isplitl [HS0]
  · iexists _, _; isplitr; swap; · iexact HS0
    ipureintro; rfl
  isplitl [HS1]
  · iexists _; isplitr; swap; · iexact HS1
    ipureintro
    sl_unfold_words; refine (View.read_writes_cons_put _ _ _ _ _ rfl).trans ?_; simp only [matAt_store]; simp only [View.readAt_eq_ld, harg2.read_unread, harg3.read_unread, harg6.read_unread, View.writes_nil, row_store]; (try unfold diagKeep); unfold settled diagS; rfl
  iexists _; isplitr; swap; · iexact HS2
  ipureintro
  sl_unfold_words; refine (View.read_writes_full _ _ _ _ _).trans ?_; simp only [matAt_store]; simp only [View.readAt_eq_ld, harg2.read_unread, harg3.read_unread, harg6.read_unread, View.writes_nil, row_store]; (try unfold diagKeep); unfold settled diagS; rfl

set_option maxHeartbeats 2000000 in
/-- The first point: every flag is set to one, then the block is settled. -/
theorem run_first (c : Dev nD) (i : grid0.Coords) (arg2 : Memref sig .tc .vmem S5x5120 .f32) (harg2 : arg2.IsWhole) (arg3 : Memref sig .tc .vmem S1024x6 .f32) (harg3 : arg3.IsWhole) (arg4 : Memref sig .tc .vmem S1024x5 .f32) (harg4 : arg4.IsWhole) (arg5 : Memref sig .tc .vmem S1024x1024 .f32) (harg5 : arg5.IsWhole) (arg6 : Memref sig .tc .vmem S1x5120 .f32) (harg6 : arg6.IsWhole) (arg7 : Memref sig .tc .vmem S1024x1 .f32) (harg7 : arg7.IsWhole)
    (hc0 : cond1 i) (hc1 : k0_cond2 i = 1#1) (hc2 : ¬k0_cond4 i = 1#1)
    (x0 : Vec F S5x5120 .f32) (x1 : Vec F S1024x6 .f32) (K : PUnit → sProp 𝕄) :
    iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare (k0_pay9 (settled i hc1 x0 x1 (k0_pay1 (F := F))) (cols5 x1)) ∗ (∃ d, owns (c : Thread nD τ) arg5 fullShare d) ∗ owns (c : Thread nD τ) arg6 fullShare (diagKeep i hc1 x0 x1 (k0_pay1 (F := F))) ∗ owns (c : Thread nD τ) arg7 fullShare (k0_pay8 (settled i hc1 x0 x1 (k0_pay1 (F := F))))) -∗ K ⟨⟩))
      ⊢ wp frame (wpE (defs₀ (F := F)) Variants.none c none) Set.univ (cc0__nms_body i arg2 harg2 arg3 harg3 arg4 harg4 arg5 harg5 arg6 harg6 arg7 harg7) K := by
  simp only [cc0__nms_body_eq_skeleton]; unfold cc0__nms_body_skel
  simp only [k0_part1_eq_skeleton]
  unfold owns
  iintro ⟨⟨%f0, %hf0, H0⟩, ⟨%f1, %hf1, H1⟩, ⟨%d2, %f2, -, H2⟩, ⟨%ds0, %fs0, -, HS0⟩, ⟨%ds1, %fs1, -, HS1⟩, ⟨%ds2, %fs2, -, HS2⟩, Hk⟩
  obtain rfl := harg2.eq_unread hf0; obtain rfl := harg3.eq_unread hf1
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro
    sl_unfold_words; refine (View.read_writes_full _ _ _ _ _).trans ?_; simp only [matAt_store]; simp only [View.readAt_eq_ld, harg2.read_unread, harg3.read_unread, View.writes_nil, row_store]; (try unfold diagKeep); unfold settled diagS; rfl
  isplitl [HS0]
  · iexists _, _; isplitr; swap; · iexact HS0
    ipureintro; rfl
  isplitl [HS1]
  · iexists _; isplitr; swap; · iexact HS1
    ipureintro
    sl_unfold_words; refine (View.read_writes_cons_put _ _ _ _ _ rfl).trans ((congrArg (fun x => VecWindow.put (s := S1x5120) x (k0_off6 i) S1x1024.size _) (View.read_writes_full _ _ _ _ _)).trans ?_); simp only [matAt_store]; simp only [View.readAt_eq_ld, harg2.read_unread, harg3.read_unread, View.writes_nil, row_store]; (try unfold diagKeep); unfold settled diagS; rfl
  iexists _; isplitr; swap; · iexact HS2
  ipureintro
  sl_unfold_words; refine (View.read_writes_full _ _ _ _ _).trans ?_; simp only [matAt_store]; simp only [View.readAt_eq_ld, harg2.read_unread, harg3.read_unread, View.writes_nil, row_store]; (try unfold diagKeep); unfold settled diagS; rfl

set_option maxHeartbeats 2000000 in
/-- A point right of the diagonal, from the flags `xs` and the settled block `kc`. -/
theorem run_tail (c : Dev nD) (i : grid0.Coords) (arg2 : Memref sig .tc .vmem S5x5120 .f32) (harg2 : arg2.IsWhole) (arg3 : Memref sig .tc .vmem S1024x6 .f32) (harg3 : arg3.IsWhole) (arg4 : Memref sig .tc .vmem S1024x5 .f32) (harg4 : arg4.IsWhole) (arg5 : Memref sig .tc .vmem S1024x1024 .f32) (harg5 : arg5.IsWhole) (arg6 : Memref sig .tc .vmem S1x5120 .f32) (harg6 : arg6.IsWhole) (arg7 : Memref sig .tc .vmem S1024x1 .f32) (harg7 : arg7.IsWhole)
    (hc0 : ¬cond1 i) (hc1 : ¬k0_cond2 i = 1#1) (hc2 : k0_cond4 i = 1#1)
    (x0 : Vec F S5x5120 .f32) (x1 : Vec F S1024x6 .f32) (xs : Vec F S1x5120 .f32) (kc : Vec F S1024x1 .f32) (x2 : Vec F S1024x5 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs ∗ owns (c : Thread nD τ) arg7 fullShare kc
        ∗ (iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare (tailKeep i hc2 x0 x1 xs kc) ∗ owns (c : Thread nD τ) arg7 fullShare kc) -∗ K ⟨⟩))
      ⊢ wp frame (wpE (defs₀ (F := F)) Variants.none c none) Set.univ (cc0__nms_body i arg2 harg2 arg3 harg3 arg4 harg4 arg5 harg5 arg6 harg6 arg7 harg7) K := by
  simp only [cc0__nms_body_eq_skeleton]; unfold cc0__nms_body_skel
  simp only [k0_part2_eq_skeleton]
  unfold owns
  iintro ⟨⟨%f0, %hf0, H0⟩, ⟨%f1, %hf1, H1⟩, ⟨%f2, %hf2, H2⟩, ⟨%ds0, %fs0, -, HS0⟩, ⟨%fs1, %hfs1, HS1⟩, ⟨%fs2, %hfs2, HS2⟩, Hk⟩
  obtain rfl := harg2.eq_unread hf0; obtain rfl := harg3.eq_unread hf1; obtain rfl := harg6.eq_unread hfs1; obtain rfl := harg7.eq_unread hfs2
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro
    exact hf2
  isplitl [HS0]
  · iexists _, _; isplitr; swap; · iexact HS0
    ipureintro; rfl
  isplitl [HS1]
  · iexists _; isplitr; swap; · iexact HS1
    ipureintro
    sl_unfold_words; refine (View.read_writes_cons_put _ _ _ _ _ rfl).trans ?_; simp only [View.readAt_eq_ld, harg2.read_unread, harg3.read_unread, harg6.read_unread, harg7.read_unread, View.writes_nil, col_whole]; unfold tailKeep tailFlags; rfl
  iexists _; isplitr; swap; · iexact HS2
  ipureintro
  exact harg7.read_unread _

set_option maxHeartbeats 2000000 in
/-- A point left of the diagonal: nothing happens. -/
theorem run_rest (c : Dev nD) (i : grid0.Coords) (arg2 : Memref sig .tc .vmem S5x5120 .f32) (harg2 : arg2.IsWhole) (arg3 : Memref sig .tc .vmem S1024x6 .f32) (harg3 : arg3.IsWhole) (arg4 : Memref sig .tc .vmem S1024x5 .f32) (harg4 : arg4.IsWhole) (arg5 : Memref sig .tc .vmem S1024x1024 .f32) (harg5 : arg5.IsWhole) (arg6 : Memref sig .tc .vmem S1x5120 .f32) (harg6 : arg6.IsWhole) (arg7 : Memref sig .tc .vmem S1024x1 .f32) (harg7 : arg7.IsWhole)
    (hc0 : ¬cond1 i) (hc1 : ¬k0_cond2 i = 1#1) (hc2 : ¬k0_cond4 i = 1#1)
    (x0 : Vec F S5x5120 .f32) (x1 : Vec F S1024x6 .f32) (xs : Vec F S1x5120 .f32) (kc : Vec F S1024x1 .f32) (x2 : Vec F S1024x5 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs ∗ owns (c : Thread nD τ) arg7 fullShare kc
        ∗ (iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs ∗ owns (c : Thread nD τ) arg7 fullShare kc) -∗ K ⟨⟩))
      ⊢ wp frame (wpE (defs₀ (F := F)) Variants.none c none) Set.univ (cc0__nms_body i arg2 harg2 arg3 harg3 arg4 harg4 arg5 harg5 arg6 harg6 arg7 harg7) K := by
  simp only [cc0__nms_body_eq_skeleton]; unfold cc0__nms_body_skel
  unfold owns
  iintro ⟨⟨%f0, %hf0, H0⟩, ⟨%f1, %hf1, H1⟩, ⟨%f2, %hf2, H2⟩, ⟨%ds0, %fs0, -, HS0⟩, ⟨%fs1, %hfs1, HS1⟩, ⟨%fs2, %hfs2, HS2⟩, Hk⟩
  obtain rfl := harg2.eq_unread hf0; obtain rfl := harg3.eq_unread hf1; obtain rfl := harg6.eq_unread hfs1; obtain rfl := harg7.eq_unread hfs2
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro
    exact hf2
  isplitl [HS0]
  · iexists _, _; isplitr; swap; · iexact HS0
    ipureintro; rfl
  isplitl [HS1]
  · iexists _; isplitr; swap; · iexact HS1
    ipureintro
    exact harg6.read_unread _
  iexists _; isplitr; swap; · iexact HS2
  ipureintro
  exact harg7.read_unread _

end Cert.KernelIdeal.Nms

end
-- ==== Proof.KernelIdeal.Traj.lean ====
/- The kernel's whole run: what the row of flags, the settled block's column and the output block hold after each point of
   the grid; the body's triple at every point against that trajectory; and the run of the program from the host lines
   before the region to the one after it. -/
module

public import proofs.«01_k».proof.Proof.KernelIdeal.Run
public import Idealize.ShloMosaic.Lib.Pipeline.FrameBody
public import Idealize.ShloMosaic.Lib.Pipeline.FrameSuffix

@[expose] public section

set_option maxRecDepth 16384

noncomputable section

namespace Cert.KernelIdeal.Nms

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which case a point is in -/

/-- The first condition holds at the first point only, -/
theorem first_iff : ∀ t : Fin cfg0.N, cond1 (grid0.coords t) ↔ t.val = 0 :=
  (by decide +kernel : ∀ t : Fin grid0.N, cond1 (grid0.coords t) ↔ t.val = 0)
/-- the second on the diagonal, -/
theorem diag_iff : ∀ t : Fin cfg0.N, k0_cond2 (grid0.coords t) = 1#1 ↔ t.val % 6 = 0 :=
  (by decide +kernel : ∀ t : Fin grid0.N, k0_cond2 (grid0.coords t) = 1#1 ↔ t.val % 6 = 0)
/-- the third right of it. -/
theorem tail_iff : ∀ t : Fin cfg0.N, k0_cond4 (grid0.coords t) = 1#1 ↔ t.val / 5 < t.val % 5 :=
  (by decide +kernel : ∀ t : Fin grid0.N, k0_cond4 (grid0.coords t) = 1#1 ↔ t.val / 5 < t.val % 5)
/-- The output block is stored on the diagonal only. -/
theorem idle_iff : ∀ t : Fin cfg0.N, cfg0.idle 2 (cfg0.grid.coords t) = !decide (t.val % 6 = 0) :=
  (by decide +kernel : ∀ t : Fin grid0.N, cfg0.idle 2 (grid0.coords t) = !decide (t.val % 6 = 0))
/-- Its staging buffer holds nothing of the kernel's before its row's diagonal point has stored it. -/
theorem fresh_iff (n : ℕ) (h : n ≤ cfg0.N) : cfg0.fresh 2 n = decide (n % 5 ≤ n / 5) :=
  Cfg.fresh_tab cfg0 2 (fun n => decide (n % 5 ≤ n / 5)) (by decide)
    (by decide +kernel : ∀ t : Fin cfg0.N, (decide ((t.val + 1) % 5 ≤ (t.val + 1) / 5) : Bool)
      = ((cfg0.win 2).flush t || (cfg0.idle 2 (cfg0.grid.coords t) && decide (t.val % 5 ≤ t.val / 5)))) n h

/-! ## The trajectory -/

/-- The flags, the settled block's column and the output block. -/
abbrev Held (F : FTy → Type) := Vec F S1x5120 .f32 × Vec F S1024x1 .f32 × Vec F S1024x5 .f32

/-- What a diagonal point makes of the flags `xs`. -/
def diagStep (c : Dev nD) (t : Fin cfg0.N) (h : k0_cond2 (grid0.coords t) = 1#1) (xs : Vec F S1x5120 .f32) : Held F :=
  (diagKeep (grid0.coords t) h (iblk m c 0 t) (iblk m c 1 t) xs,
   k0_pay8 (settled (grid0.coords t) h (iblk m c 0 t) (iblk m c 1 t) xs),
   k0_pay9 (settled (grid0.coords t) h (iblk m c 0 t) (iblk m c 1 t) xs) (cols5 (iblk m c 1 t)))

/-- What a point but the first makes of what the one before left. -/
def heldStep (c : Dev nD) (t : Fin cfg0.N) (p : Held F) : Held F :=
  if h : k0_cond2 (grid0.coords t) = 1#1 then diagStep m c t h p.1
  else if h : k0_cond4 (grid0.coords t) = 1#1 then
    (tailKeep (grid0.coords t) h (iblk m c 0 t) (iblk m c 1 t) p.1 p.2.1, p.2)
  else p

/-- What is held after point `n`. -/
def held (c : Dev nD) : (n : ℕ) → n < cfg0.N → Held F
  | 0, h => diagStep m c ⟨0, h⟩ ((diag_iff ⟨0, h⟩).mpr rfl) (k0_pay1 (F := F))
  | n + 1, h => heldStep m c ⟨n + 1, h⟩ (held c n (Nat.lt_of_succ_lt h))

theorem held_zero (c : Dev nD) (t : Fin cfg0.N) (hz : t.val = 0) (h : k0_cond2 (grid0.coords t) = 1#1) :
    held m c t.val t.isLt = diagStep m c t h (k0_pay1 (F := F)) := by
  obtain ⟨n, hn⟩ := t
  obtain rfl : n = 0 := hz
  rfl

theorem held_pos (c : Dev nD) (t : Fin cfg0.N) (hz : t.val ≠ 0) :
    held m c t.val t.isLt = heldStep m c t (held m c (t.val - 1) (Nat.lt_of_le_of_lt (Nat.sub_le _ _) t.isLt)) := by
  obtain ⟨n, hn⟩ := t
  cases n with
  | zero => exact absurd rfl hz
  | succ n => rfl

theorem held_diag (c : Dev nD) (t : Fin cfg0.N) (hz : t.val ≠ 0) (h : k0_cond2 (grid0.coords t) = 1#1) :
    held m c t.val t.isLt = diagStep m c t h (held m c (t.val - 1) (Nat.lt_of_le_of_lt (Nat.sub_le _ _) t.isLt)).1 := by
  rw [held_pos m c t hz]; unfold heldStep; rw [dif_pos h]

theorem held_tail (c : Dev nD) (t : Fin cfg0.N) (hz : t.val ≠ 0) (h : ¬k0_cond2 (grid0.coords t) = 1#1) (h' : k0_cond4 (grid0.coords t) = 1#1) :
    held m c t.val t.isLt
      = (tailKeep (grid0.coords t) h' (iblk m c 0 t) (iblk m c 1 t) (held m c (t.val - 1) (Nat.lt_of_le_of_lt (Nat.sub_le _ _) t.isLt)).1
          (held m c (t.val - 1) (Nat.lt_of_le_of_lt (Nat.sub_le _ _) t.isLt)).2.1,
         (held m c (t.val - 1) (Nat.lt_of_le_of_lt (Nat.sub_le _ _) t.isLt)).2) := by
  rw [held_pos m c t hz]; unfold heldStep; rw [dif_neg h, dif_pos h']

theorem held_rest (c : Dev nD) (t : Fin cfg0.N) (hz : t.val ≠ 0) (h : ¬k0_cond2 (grid0.coords t) = 1#1) (h' : ¬k0_cond4 (grid0.coords t) = 1#1) :
    held m c t.val t.isLt = held m c (t.val - 1) (Nat.lt_of_le_of_lt (Nat.sub_le _ _) t.isLt) := by
  rw [held_pos m c t hz]; unfold heldStep; rw [dif_neg h, dif_neg h']

/-- The output block is carried over every point off the diagonal. -/
theorem held_out (c : Dev nD) (t : Fin cfg0.N) (hz : t.val ≠ 0) (h : ¬k0_cond2 (grid0.coords t) = 1#1) :
    (held m c t.val t.isLt).2.2 = (held m c (t.val - 1) (Nat.lt_of_le_of_lt (Nat.sub_le _ _) t.isLt)).2.2 := by
  by_cases h' : k0_cond4 (grid0.coords t) = 1#1
  · rw [held_tail m c t hz h h']
  · rw [held_rest m c t hz h h']

/-! ## The proof data -/

/-- The staging memrefs at a point, as the body is called with them, and the scratch memrefs. -/
abbrev stg0 (t : Fin cfg0.N) : Memref sig .tc .vmem S5x5120 .f32 := win0_0.stage (cfg0.slots t 0)
abbrev stg1 (t : Fin cfg0.N) : Memref sig .tc .vmem S1024x6 .f32 := win0_1.stage (cfg0.slots t 1)
abbrev stg2 (t : Fin cfg0.N) : Memref sig .tc .vmem S1024x5 .f32 := win0_2.stage (cfg0.slots t 2)
abbrev scrS : Memref sig .tc .vmem S1024x1024 .f32 := Memref.whole cc0_scratch0
abbrev scrK : Memref sig .tc .vmem S1x5120 .f32 := Memref.whole cc0_scratch1
abbrev scrB : Memref sig .tc .vmem S1024x1 .f32 := Memref.whole cc0_scratch2

/-- The launch's invariant, its scratch named. -/
theorem launch_inv (c : Dev nD) :
    (Pipeline.ΦA spec0 c : sProp 𝕄)
      = iprop(iprop((∃ d, owns (c : Thread nD τ) scrS fullShare d) ∗ (∃ d, owns (c : Thread nD τ) scrK fullShare d) ∗ (∃ d, owns (c : Thread nD τ) scrB fullShare d)) ∗ (∃ r, prngReg c r)) := by
  unfold Pipeline.ΦA; rw [scopedRest0_eq]; simp only [scrS, scrK, scrB, owns_whole]; try rfl

/-- The invariant before point `n`: the flags and the settled column as the point before left them. -/
def inv (c : Dev nD) : (n : ℕ) → n ≤ cfg0.N → sProp 𝕄
  | 0, _ => Pipeline.ΦA spec0 c
  | n + 1, hn => iprop(iprop((∃ d, owns (c : Thread nD τ) scrS fullShare d) ∗ owns (c : Thread nD τ) scrK fullShare (held m c n hn).1
      ∗ owns (c : Thread nD τ) scrB fullShare (held m c n hn).2.1) ∗ (∃ r, prngReg c r))

theorem inv_zero (c : Dev nD) (n : ℕ) (h : n ≤ cfg0.N) (hz : n = 0) : inv m c n h = Pipeline.ΦA spec0 c := by
  subst hz; rfl

theorem inv_succ (c : Dev nD) (n : ℕ) (hn : n < cfg0.N) :
    inv m c (n + 1) hn = iprop(iprop((∃ d, owns (c : Thread nD τ) scrS fullShare d) ∗ owns (c : Thread nD τ) scrK fullShare (held m c n hn).1
      ∗ owns (c : Thread nD τ) scrB fullShare (held m c n hn).2.1) ∗ (∃ r, prngReg c r)) := rfl

theorem inv_pos (c : Dev nD) (n : ℕ) (h : n ≤ cfg0.N) (hz : n ≠ 0) :
    inv m c n h = iprop(iprop((∃ d, owns (c : Thread nD τ) scrS fullShare d) ∗ owns (c : Thread nD τ) scrK fullShare (held m c (n - 1) (by omega)).1
      ∗ owns (c : Thread nD τ) scrB fullShare (held m c (n - 1) (by omega)).2.1) ∗ (∃ r, prngReg c r)) := by
  cases n with
  | zero => exact absurd rfl hz
  | succ n => rfl

/-- The proof data: the inputs' buffers keep their blocks, the output's holds the trajectory's block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (held m c t.val t.isLt).2.2
  Φ t := inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem inv_castSucc (c : Dev nD) (t : Fin cfg0.N) : (dats m 0 c).Φ t.castSucc = inv m c t.val (Nat.le_of_lt t.isLt) := by
  dsimp only [dats]; exact Pipeline.Dat.Φ_castSucc (inv m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = (held m c t.val t.isLt).2.2 := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d

/-- Past its row's diagonal point the output's buffer is found at the trajectory's block. -/
theorem before_2 (c : Dev nD) (t : Fin cfg0.N) (d) (h : ¬t.val % 5 ≤ t.val / 5) :
    (dats m 0 c).before 2 t d = (dats m 0 c).after 2 ⟨t.val - 1, by omega⟩ := by
  have key := (dats m 0 c).before_out_traj 2 rfl (fun _ _ => rfl) (fun t hz hi _ => by
    rw [after_2, after_2]
    rw [idle_iff] at hi
    exact held_out m c t hz (fun hd => by
      have := (diag_iff t).mp hd
      simp [this] at hi)) t.val t rfl d
  rw [key, fresh_iff t.val (Nat.le_of_lt t.isLt), if_neg (by simpa using h)]

/-! ## The body at every point -/

/-- What the body is called with at point `t`, -/
def pre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d)))

/-- what it leaves in the output's buffer, -/
def post2 (c : Dev nD) (t : Fin cfg0.N) : sProp 𝕄 :=
  match cfg0.idle 2 (cfg0.grid.coords t) with
  | true =>
    match (cfg0.win 2).flush t with
    | false => iprop(∃ d, owns (c : Thread nD τ) (stg2 t) fullShare ((dats m 0 c).before 2 t d))
    | true => owns (c : Thread nD τ) (stg2 t) fullShare ((dats m 0 c).after 2 t)
  | false => owns (c : Thread nD τ) (stg2 t) fullShare ((dats m 0 c).after 2 t)

/-- and what it returns. -/
def post (c : Dev nD) (t : Fin cfg0.N) : sProp 𝕄 :=
  iprop((dats m 0 c).Φ t.succ ∗ (dats m 0 c).owesAt () t.succ
    ∗ owns (c : Thread nD τ) (stg0 t) fullShare ((dats m 0 c).after 0 t)
    ∗ owns (c : Thread nD τ) (stg1 t) fullShare ((dats m 0 c).after 1 t)
    ∗ post2 m c t)

/-- On the diagonal the output's buffer is left at the trajectory's block. -/
theorem post2_diag (c : Dev nD) (t : Fin cfg0.N) (h : t.val % 6 = 0) :
    post2 m c t = owns (c : Thread nD τ) (stg2 t) fullShare (held m c t.val t.isLt).2.2 := by
  unfold post2
  rw [show cfg0.idle 2 (cfg0.grid.coords t) = false from (idle_iff t).trans (by rw [decide_eq_true h]; rfl)]
  dsimp only
  rw [after_2]

/-- Off the diagonal the buffer handed back as it was found is what is asked. -/
theorem post2_rest (c : Dev nD) (t : Fin cfg0.N) (h : ¬t.val % 6 = 0) (d) :
    owns (c : Thread nD τ) (stg2 t) fullShare ((dats m 0 c).before 2 t d) ⊢ post2 m c t := by
  have hN : t.val < 25 := lt_of_lt_of_eq t.isLt (show cfg0.N = 25 from N_0)
  unfold post2
  rw [show cfg0.idle 2 (cfg0.grid.coords t) = true from (idle_iff t).trans (by rw [decide_eq_false h]; rfl)]
  cases hf : (cfg0.win 2).flush t
  · dsimp only
    iintro H; iexists d; iexact H
  · have h4 := (flush0_2 t).mp hf
    dsimp only
    rw [before_2 m c t d (by omega), after_2, after_2]
    dsimp only
    rw [held_out m c t (by omega) (fun hd => h ((diag_iff t).mp hd))]

set_option maxHeartbeats 3200000 in
/-- The body's triple at any point. -/
theorem body_at (c : Dev nD) (t : Fin cfg0.N) :
    pre m c t ⊢ wp frame (wpE (defs₀ (F := F)) Variants.none c none) Set.univ (bodyAt0 t) (fun _ => post m c t) := by
  unfold pre post bodyAt0
  simp only [before_0, before_1]
  rw [show (dats m 0 c).owesAt () t.succ = (dats m 0 c).owesAt () t.castSucc from rfl, after_0, after_1,
    show (dats m 0 c).Φ t.succ = inv m c (t.val + 1) t.isLt from rfl, inv_succ, inv_castSucc]
  have hN : t.val < 25 := lt_of_lt_of_eq t.isLt (show cfg0.N = 25 from N_0)
  by_cases hz : t.val = 0
  · have h1 : k0_cond2 (grid0.coords t) = 1#1 := (diag_iff t).mpr (by omega)
    have h2 : ¬k0_cond4 (grid0.coords t) = 1#1 := fun h => by have := (tail_iff t).mp h; omega
    rw [inv_zero m c _ _ hz, launch_inv, post2_diag m c t (by omega), held_zero m c t hz h1]
    unfold diagStep; dsimp only
    iintro ⟨⟨⟨HS0, HS1, HS2⟩, Hg⟩, Ho, ⟨%d0, H0⟩, ⟨%d1, H1⟩, ⟨%d2, H2⟩⟩
    iapply (run_first c (grid0.coords t) _ _ _ _ _ _ _ _ _ _ _ _ ((first_iff t).mpr hz) h1 h2 (iblk m c 0 t) (iblk m c 1 t) _)
    isplitl [H0]; · iexact H0
    isplitl [H1]; · iexact H1
    isplitl [H2]; · iexists _; iexact H2
    isplitl [HS0]; · iexact HS0
    isplitl [HS1]; · iexact HS1
    isplitl [HS2]; · iexact HS2
    iintro ⟨H0, H1, H2, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    iexact H2
  · have h0 : ¬cond1 (grid0.coords t) := fun h => hz ((first_iff t).mp h)
    rw [inv_pos m c _ _ hz]
    by_cases hd : t.val % 6 = 0
    · have h1 : k0_cond2 (grid0.coords t) = 1#1 := (diag_iff t).mpr hd
      have h2 : ¬k0_cond4 (grid0.coords t) = 1#1 := fun h => by have := (tail_iff t).mp h; omega
      rw [post2_diag m c t hd, held_diag m c t hz h1]
      unfold diagStep; dsimp only
      iintro ⟨⟨⟨HS0, HS1, HS2⟩, Hg⟩, Ho, ⟨%d0, H0⟩, ⟨%d1, H1⟩, ⟨%d2, H2⟩⟩
      iapply (run_diag c (grid0.coords t) _ _ _ _ _ _ _ _ _ _ _ _ h0 h1 h2 (iblk m c 0 t) (iblk m c 1 t) _ _)
      isplitl [H0]; · iexact H0
      isplitl [H1]; · iexact H1
      isplitl [H2]; · iexists _; iexact H2
      isplitl [HS0]; · iexact HS0
      isplitl [HS1]; · iexact HS1
      isplitl [HS2]; · iexists _; iexact HS2
      iintro ⟨H0, H1, H2, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      iexact H2
    · have h1 : ¬k0_cond2 (grid0.coords t) = 1#1 := fun h => hd ((diag_iff t).mp h)
      by_cases h2 : k0_cond4 (grid0.coords t) = 1#1
      · rw [held_tail m c t hz h1 h2]
        dsimp only
        iintro ⟨⟨⟨HS0, HS1, HS2⟩, Hg⟩, Ho, ⟨%d0, H0⟩, ⟨%d1, H1⟩, ⟨%d2, H2⟩⟩
        iapply (run_tail c (grid0.coords t) _ _ _ _ _ _ _ _ _ _ _ _ h0 h1 h2 (iblk m c 0 t) (iblk m c 1 t) _ _ _ _)
        isplitl [H0]; · iexact H0
        isplitl [H1]; · iexact H1
        isplitl [H2]; · iexact H2
        isplitl [HS0]; · iexact HS0
        isplitl [HS1]; · iexact HS1
        isplitl [HS2]; · iexact HS2
        iintro ⟨H0, H1, H2, HS0, HS1, HS2⟩
        isplitl [HS0 HS1 HS2 Hg]
        · isplitl [HS0 HS1 HS2]
          · isplitl [HS0]; · iexact HS0
            isplitl [HS1]; · iexact HS1
            iexact HS2
          iexact Hg
        isplitl [Ho]; · iexact Ho
        isplitl [H0]; · iexact H0
        isplitl [H1]; · iexact H1
        iapply (post2_rest m c t hd d2); iexact H2
      · rw [held_rest m c t hz h1 h2]
        iintro ⟨⟨⟨HS0, HS1, HS2⟩, Hg⟩, Ho, ⟨%d0, H0⟩, ⟨%d1, H1⟩, ⟨%d2, H2⟩⟩
        iapply (run_rest c (grid0.coords t) _ _ _ _ _ _ _ _ _ _ _ _ h0 h1 h2 (iblk m c 0 t) (iblk m c 1 t) _ _ _ _)
        isplitl [H0]; · iexact H0
        isplitl [H1]; · iexact H1
        isplitl [H2]; · iexact H2
        isplitl [HS0]; · iexact HS0
        isplitl [HS1]; · iexact HS1
        isplitl [HS2]; · iexact HS2
        iintro ⟨H0, H1, H2, HS0, HS1, HS2⟩
        isplitl [HS0 HS1 HS2 Hg]
        · isplitl [HS0 HS1 HS2]
          · isplitl [HS0]; · iexact HS0
            isplitl [HS1]; · iexact HS1
            iexact HS2
          iexact Hg
        isplitl [Ho]; · iexact Ho
        isplitl [H0]; · iexact H0
        isplitl [H1]; · iexact H1
        iapply (post2_rest m c t hd d2); iexact H2

/-- The body table's row at a point's slots. -/
theorem row_eq (t : Fin cfg0.N) : defs₀ (F := F) .tc cfg0.body (cfg0.bodyArgs t (cfg0.slots t)) = bodyAt0 t := by
  unfold defs₀; rw [Defs.onTc_tc]

/-- The library's body obligation. -/
theorem obligation (c : Dev nD) : BodyObligation (dats (F := F) m 0 c) (defs₀ (F := F)) Variants.none () Set.univ := fun t => by
  rw [bigSep_W0, bigSep_W0, row_eq]
  exact triple_restated (body_at m c t) rfl .rfl fun _ => .rfl

theorem inv_in (c : Dev nD) : Pipeline.ΦA spec0 c ⊢ (dats m 0 c).Φ 0 := by
  rw [show (dats m 0 c).Φ 0 = inv m c 0 (Nat.zero_le _) from rfl, inv_zero m c 0 _ rfl]
  try exact Idealize.SL.BI.Entails.refl _

theorem inv_out (c : Dev nD) : (dats m 0 c).Φ (Fin.last cfg0.N) ⊢ Pipeline.ΦA spec0 c := by
  rw [show (dats m 0 c).Φ (Fin.last cfg0.N) = inv m c cfg0.N (Nat.le_refl _) from rfl,
    inv_pos m c _ _ (by have : cfg0.N = 25 := N_0; omega), launch_inv]
  iintro ⟨⟨HS0, HS1, HS2⟩, Hg⟩
  isplitl [HS0 HS1 HS2]
  · isplitl [HS0]; · iexact HS0
    isplitl [HS1]; · iexists _; iexact HS1
    iexists _; iexact HS2
  iexact Hg

set_option backward.isDefEq.respectTransparency.types false in
set_option maxHeartbeats 800000 in
/-- The run: the arrays as the trajectory leaves them, every other buffer as the host lines leave it, and every semaphore
    counter at zero. -/
theorem run : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := inv_in m) (hout := inv_out m)

/-- The argument arrays end unchanged, every counter at zero. -/
theorem frame_run : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c =>
      ⟨((h.1 c).2 main_arg0 (Pipeline.mem_restRefs_of main_arg0 (by decide) (by decide))).trans (W_main_arg0 m (dats m) c),
       ((h.1 c).2 main_arg1 (Pipeline.mem_restRefs_of main_arg1 (by decide) (by decide))).trans (W_main_arg1 m (dats m) c)⟩, h.2⟩) (run m ρ)

end Cert.KernelIdeal.Nms

end
-- ==== Proof.ReferenceIdeal.Frame.lean ====
/- The reference's run leaves its two arguments as they were, and every semaphore at rest: no line of the program, before,
   inside or after its loop, writes an argument, and the program declares no semaphore at all. -/
module

public import proofs.«01_k».proof.Proof.Gen.ReferenceIdeal.Run
public import Idealize.ShloMosaic.Lib.Quiescent

@[expose] public section

set_option maxRecDepth 16384

noncomputable section

namespace Cert.ReferenceIdeal.Nms

open Cert.ReferenceIdeal Cert.ReferenceIdeal.Gen Cert.ReferenceIdeal.Value
open Idealize.ShloMosaic Idealize.ShloMosaic.TcCoe Idealize.ShloMosaic.StableHlo
open Idealize.SL.Sem

variable {F : FTy → Type} [FloatOps F]
variable (m : (ℓ : Loc nD τ sig) → Buf (Elt F) ℓ) (ρ : Dev nD → PrngReg)

/-- The references the lines before the loop write. -/
abbrev preW : List (Ref sig .tc) :=
  hostOps0_W ++ hostOps0_1_W ++ hostOps0_2_W ++ hostOps0_3_W ++ hostOps0_4_W ++ hostOps0_5_W ++ hostOps0_6_W

/-- The references one trip of the loop writes. -/
abbrev tripW : List (Ref sig .tc) :=
  condOps_W ++ while0Ops0_W ++ while0Ops0_1_W ++ while0Ops0_2_W ++ while0Ops0_3_W

/-- The references the lines after the loop write. -/
abbrev postW : List (Ref sig .tc) := [main_v59, main_v60, main_v61, main_v62, main_v63, main_v64, main_v65]

theorem post_writes : (hostOps0_7 : List (HloOp τ sig (Elt F))).Forall fun op =>
    op.writes ⊆ (postW.map (Proc.devRef (τ := τ) .tc)).toFinset :=
  StableHlo.forall_writes_sub_of_map rfl

/-- A reference no line before the loop writes holds its first contents when the loop is entered. -/
theorem entry_keeps {r : Ref sig .tc} (h : r ∉ preW) (c : Dev nD) :
    entryContents preI m c (Proc.devRef .tc r) = m ((c.tc : Thread nD τ).loc r) := by
  simp only [preW, List.mem_append, not_or] at h
  simp only [entryContents, afterL_cons, afterL_nil]
  rw [after_of_writes_sub _ _ hostOps0_6_writes h.2, after_of_writes_sub _ _ hostOps0_5_writes h.1.2,
    after_of_writes_sub _ _ hostOps0_4_writes h.1.1.2, after_of_writes_sub _ _ hostOps0_3_writes h.1.1.1.2,
    after_of_writes_sub _ _ hostOps0_2_writes h.1.1.1.1.2, after_of_writes_sub _ _ hostOps0_1_writes h.1.1.1.1.1.2,
    after_of_writes_sub _ _ hostOps0_writes h.1.1.1.1.1.1]

/-- A reference no line of the loop writes holds at every trip what it held when the loop was entered. -/
theorem atK_keeps {r : Ref sig .tc} (h : r ∉ tripW) (c : Dev nD) :
    ∀ k, atK m k c (Proc.devRef .tc r) = entryContents preI m c (Proc.devRef .tc r)
  | 0 => rfl
  | k + 1 => by
    have h' := h
    simp only [tripW, List.mem_append, not_or] at h'
    rw [show atK m (k + 1) c = afterL bodyI (after condOps (atK m k c)) from rfl]
    rw [afterL_cons, afterL_cons, afterL_cons, afterL_cons, afterL_nil]
    rw [after_of_writes_sub _ _ while0Ops0_3_writes h'.2, after_of_writes_sub _ _ while0Ops0_2_writes h'.1.2,
      after_of_writes_sub _ _ while0Ops0_1_writes h'.1.1.2, after_of_writes_sub _ _ while0Ops0_writes h'.1.1.1.2,
      after_of_writes_sub _ _ condOps_writes h'.1.1.1.1, atK_keeps h c k]

/-- A reference written neither by the loop nor before it holds its first contents at the end. -/
theorem final_keeps {r : Ref sig .tc} (h : r ∉ preW) (h' : r ∉ tripW) (h'' : r ∉ postW) (c : Dev nD) :
    finalContents condOps preI bodyI postI 5000 m c (Proc.devRef .tc r) = m ((c.tc : Thread nD τ).loc r) := by
  have hc : r ∉ condOps_W := by
    simp only [tripW, List.mem_append, not_or] at h'
    exact h'.1.1.1.1
  show afterL postI (after condOps (atK m 5000 c)) (Proc.devRef .tc r) = _
  simp only [afterL_cons, afterL_nil]
  rw [after_of_writes_sub _ _ post_writes h'', after_of_writes_sub _ _ condOps_writes hc, atK_keeps m h' c, entry_keeps m h c]

/-- The reference's run: its two arguments end as they were and every semaphore is at rest. -/
theorem frame_run : θ_run (defs (F := F)) (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0) :=
  (run_fold m ρ).mono fun r h =>
    ⟨fun c => ⟨(h c main_arg0 (by decide)).trans (final_keeps m (by decide +kernel) (by decide +kernel) (by decide +kernel) c),
        (h c main_arg1 (by decide)).trans (final_keeps m (by decide +kernel) (by decide +kernel) (by decide +kernel) c)⟩,
      sem_eq_zero_of_no_sems (sig := sig) rfl _⟩

end Cert.ReferenceIdeal.Nms

end
-- ==== Proof.Math.Flag.lean ====
/- Truth values as the numbers one and zero, and the overlap test of two boxes as it is computed. -/
module

public import Idealize.ShloMosaic.PureOps.Ideal
public import Mathlib.Data.EReal.Operations
public import Mathlib.Data.EReal.Inv

@[expose] public section

noncomputable section

namespace Cert.Greedy

open scoped Classical in
/-- One if `p` holds, else zero. -/
def flag (p : Prop) : EReal := if p then 1 else 0

theorem flag_true {p : Prop} (h : p) : flag p = 1 := if_pos h
theorem flag_false {p : Prop} (h : ¬p) : flag p = 0 := if_neg h

theorem flag_congr {p q : Prop} (h : p ↔ q) : flag p = flag q := by rw [propext h]

theorem flag_nonneg (p : Prop) : 0 ≤ flag p := by
  by_cases h : p
  · rw [flag_true h]; exact zero_le_one
  · rw [flag_false h]

theorem flag_pos {p : Prop} : 0 < flag p ↔ p := by
  by_cases h : p
  · rw [flag_true h]; exact iff_of_true zero_lt_one h
  · rw [flag_false h]; exact iff_of_false (lt_irrefl _) h

theorem flag_inj {p q : Prop} (h : flag p = flag q) : p ↔ q := by
  rw [← flag_pos (p := p), h, flag_pos]

theorem flag_mul (p q : Prop) : flag p * flag q = flag (p ∧ q) := by
  by_cases h : p
  · rw [flag_true h, one_mul]; exact flag_congr (by simp [h])
  · rw [flag_false h, zero_mul, flag_false (by simp [h])]

theorem half_lt_one : (((1 : ℝ) / 2 : ℝ) : EReal) < 1 := by
  rw [show (1 : EReal) = ((1 : ℝ) : EReal) from rfl, EReal.coe_lt_coe_iff]; norm_num

theorem half_pos : (0 : EReal) < (((1 : ℝ) / 2 : ℝ) : EReal) := by
  rw [show (0 : EReal) = ((0 : ℝ) : EReal) from rfl, EReal.coe_lt_coe_iff]; norm_num

theorem half_lt_flag {p : Prop} : (((1 : ℝ) / 2 : ℝ) : EReal) < flag p ↔ p := by
  by_cases h : p
  · rw [flag_true h]; exact iff_of_true half_lt_one h
  · rw [flag_false h]; exact iff_of_false (not_lt.mpr half_pos.le) h

/-- A sum of flags passes one half just when one of them is up. -/
theorem half_lt_sum {n : ℕ} (p : Fin n → Prop) : (((1 : ℝ) / 2 : ℝ) : EReal) < ∑ k, flag (p k) ↔ ∃ k, p k := by
  constructor
  · intro h
    by_contra hn
    rw [Finset.sum_eq_zero fun k _ => flag_false fun hk => hn ⟨k, hk⟩] at h
    exact absurd h (not_lt.mpr half_pos.le)
  · rintro ⟨k, hk⟩
    refine lt_of_lt_of_le half_lt_one ?_
    rw [← flag_true hk]
    exact Finset.single_le_sum (f := fun k => flag (p k)) (fun i _ => flag_nonneg _) (Finset.mem_univ k)

/-- The overlap test of two boxes, corners and area each: three times the intersection passes the sum of the areas. -/
def Over (x1 y1 x2 y2 a x1' y1' x2' y2' a' : EReal) : Prop :=
  a + a' < 3 * (max (min x2 x2' - max x1 x1') 0 * (min y2 y2' - max y1 y1'))

/-- A box whose left edge is put past its right edge overlaps nothing. -/
theorem not_over {x1 y1 x2 y2 a x1' y1' x2' y2' a' : EReal} (hx : x2 ≤ x1) (ha : 0 ≤ a + a') :
    ¬Over x1 y1 x2 y2 a x1' y1' x2' y2' a' := by
  unfold Over
  rw [max_eq_right (EReal.sub_nonpos.mpr ((min_le_left _ _).trans (hx.trans (le_max_left _ _)))), zero_mul, mul_zero]
  exact not_lt.mpr ha

end Cert.Greedy

end
-- ==== Proof.KernelIdeal.Pay.lean ====
/- The kernel body's vectors at the ideal values, entry by entry: the overlap matrix, a sweep, the loop's comparison and the
   flags right of the diagonal, on rows of flags. -/
module

public import proofs.«01_k».proof.Proof.KernelIdeal.Body
public import proofs.«01_k».proof.Proof.Math.Flag
public import Idealize.ShloMosaic.Lib.MatmulPlain
public import Idealize.ShloMosaic.Lib.ValueLayout
public import Idealize.ShloMosaic.Lib.ValueLayoutCasts
public import Idealize.ShloMosaic.Lib.IdealHost
public import Idealize.ShloMosaic.Lib.Affine
public import Idealize.ShloMosaic.Lib.WordCmp
public import Idealize.ShloMosaic.Lib.Pipeline.Value
public import Idealize.ShloMosaic.PureOps.Ideal.Laws

@[expose] public section

set_option maxRecDepth 16384

noncomputable section

namespace Cert.KernelIdeal.Nms

open Cert.KernelIdeal Cert.KernelIdeal.Gen Cert.Greedy
open Idealize.ShloMosaic Idealize.ShloMosaic.ValueIdx Idealize.ShloMosaic.Tactic

/-! ## The literals -/

theorem half_f32 : Ideal.ofBits .f32 0x3F000000#32 = (((1 : ℝ) / 2 : ℝ) : EReal) := by
  simp [Ideal.ofBits, Ideal.ieee, -EReal.coe_mul]; norm_num

theorem three_f32 : Ideal.ofBits .f32 0x40400000#32 = 3 := by
  rw [show (3 : EReal) = ((3 : ℝ) : EReal) from rfl]
  simp [Ideal.ofBits, Ideal.ieee, -EReal.coe_mul]; norm_num

theorem far_f32 : Ideal.ofBits .f32 0x46EA6000#32 = ((30000 : ℝ) : EReal) := by
  simp [Ideal.ofBits, Ideal.ieee, -EReal.coe_mul]; norm_num

/-! ## Rows of flags -/

/-- A row of flags. -/
def flags {n : ℕ} (Q : ℕ → Prop) : Vec Ideal ⟨2, ![1, n]⟩ .f32 := fun j => flag (Q (j 1).val)

theorem ofBool_eq_one (b : Bool) : BitVec.ofBool b = 1#1 ↔ b = true := by cases b <;> decide

theorem ogt_eq_one {x y : EReal} : Ideal.cmp .ogt x y = 1#1 ↔ y < x := by
  unfold Ideal.cmp; rw [ofBool_eq_one]; exact decide_eq_true_iff

theorem one_eq_one {x y : EReal} : Ideal.cmp .one x y = 1#1 ↔ x ≠ y := by
  unfold Ideal.cmp; rw [ofBool_eq_one]; exact decide_eq_true_iff

/-- A selection between one and zero is a flag, -/
theorem sel_flag (b : BitVec 1) : (if b = 1#1 then (1 : EReal) else 0) = flag (b = 1#1) := by
  by_cases h : b = 1#1
  · rw [if_pos h, flag_true h]
  · rw [if_neg h, flag_false h]
/-- between zero and one the opposite flag. -/
theorem sel_flag' (b : BitVec 1) : (if b = 1#1 then (0 : EReal) else 1) = flag (¬b = 1#1) := by
  by_cases h : b = 1#1
  · rw [if_pos h, flag_false (by simp [h])]
  · rw [if_neg h, flag_true h]

/-- The sum a matrix product of a row of flags and a matrix of flags has at a column. -/
theorem strike (Q : ℕ → Prop) (M : ℕ → ℕ → Prop) (S : Vec Ideal S1024x1024 .f32)
    (hS : ∀ (r c : Fin 1024), S (ix2 r c) = flag (M r.val c.val)) (c : Fin 1024) :
    (((1 : ℝ) / 2 : ℝ) : EReal) < matmul (F := Ideal) (φ₁ := .f32) (φ₂ := .f32) dot_S1x1024_S1024x1024_S1x1024_1_0_0_1_n_n none (flags Q) S (constant S1x1024 .f32 0x00000000#32) (ix2 0 c)
      ↔ ∃ r, r < 1024 ∧ Q r ∧ M r c.val := by
  have hd : dot_S1x1024_S1024x1024_S1x1024_1_0_0_1_n_n = DotDims.plain 1 1024 1024 := rfl
  rw [hd, show matmul (F := Ideal) (φ₁ := .f32) (φ₂ := .f32) (DotDims.plain 1 1024 1024) none (flags Q) S (constant S1x1024 .f32 0x00000000#32) (ix2 0 c) = _ from
    Ideal.matmul_plain_apply _ _ _ _ 0 c]
  rw [show (constant (F := Ideal) S1x1024 .f32 0x00000000#32) (ix2 0 c) = 0 from Ideal.ofBits_zero_f32, zero_add]
  rw [Finset.sum_congr rfl (fun k _ => show flags Q (ix2 0 k) * S (ix2 k c) = flag (Q k.val ∧ M k.val c.val) by
    rw [hS, show flags (n := 1024) Q (ix2 0 k) = flag (Q k.val) from rfl, flag_mul]), half_lt_sum]
  exact ⟨fun ⟨k, h⟩ => ⟨k.val, k.isLt, h⟩, fun ⟨r, hr, h⟩ => ⟨⟨r, hr⟩, h⟩⟩

/-- A sweep of flags: those of `P` that no flag of `Q` strikes. -/
theorem pay3_flags (P Q : ℕ → Prop) (M : ℕ → ℕ → Prop) (S : Vec Ideal S1024x1024 .f32)
    (hS : ∀ (r c : Fin 1024), S (ix2 r c) = flag (M r.val c.val)) :
    k0_pay3 (F := Ideal) (flags P) (flags Q) S = flags (fun c => P c ∧ ¬∃ r, r < 1024 ∧ Q r ∧ M r c) := by
  funext j
  obtain ⟨r, c, rfl⟩ : ∃ r c, j = ix2 r c := ⟨_, _, eq_ix2 j⟩
  obtain rfl : r = 0 := Subsingleton.elim _ _
  have h : ∀ b : BitVec 1, (if b = 1#1 then Ideal.ofBits .f32 0x00000000#32 else Ideal.ofBits .f32 0x3F800000#32) = flag (¬b = 1#1) := fun b => by
    rw [Ideal.ofBits_zero_f32, Ideal.ofBits_one_f32]; exact sel_flag' b
  show flag (P c.val) * (if Ideal.cmp .ogt _ (Ideal.ofBits .f32 0x3F000000#32) = 1#1 then Ideal.ofBits .f32 0x00000000#32 else Ideal.ofBits .f32 0x3F800000#32)
    = flag (P c.val ∧ ¬∃ r, r < 1024 ∧ Q r ∧ M r c.val)
  rw [h, flag_mul, ogt_eq_one, half_f32]
  exact flag_congr (and_congr_right fun _ => not_congr (strike Q M S hS c))

theorem pay4_eq (v a : Vec Ideal S1x1024 .f32) (S : Vec Ideal S1024x1024 .f32) :
    k0_pay4 v a S S = k0_pay3 v (k0_pay3 v a S) S := rfl

/-- The fold of the maximum reaches past every entry. -/
theorem le_fold_max {ι : Type} (s : Finset ι) (b : EReal) (f : ι → EReal) (i : ι) (hi : i ∈ s) : f i ≤ s.fold max b f :=
  (Finset.le_fold_max _).mpr (Or.inr ⟨i, hi, le_rfl⟩)

theorem fold_max_flag {ι : Type} (s : Finset ι) (p : ι → Prop) :
    0 < s.fold max ⊥ (fun i => flag (p i)) ↔ ∃ i ∈ s, p i := by
  rw [Finset.lt_fold_max]
  simp only [flag_pos, not_lt_bot, false_or]

/-- The maximum over a whole row is past every entry of it. -/
theorem le_rowMax (v : FVec Ideal S1x1024 .f32) (i : S1.Idx) (j : S1x1024.Idx) :
    v j ≤ multiReduction (F := Ideal) .maximumf [1, 2] S1 (shapeCast S1x1x1024 v shapeCasts_S1x1024_S1x1x1024) 0xFF800000#32
      reduces_S1x1x1024_S1 (.inl rfl) rfl i := by
  refine le_of_le_of_eq ?_ (multiReduction_maximumf_eq_fold _ _ _ _ _ _).symm
  refine (Finset.le_fold_max _).mpr (Or.inr ⟨(Shape.reshapeEquiv shapeCasts_S1x1024_S1x1x1024).symm j, ?_, ?_⟩)
  · rw [Finset.mem_filter]
    refine ⟨Finset.mem_univ _, ?_⟩
    funext a
    have hs : S1.size a = 1 := by fin_cases a; rfl
    have h1 := (reduces_S1x1x1024_S1.drop ((Shape.reshapeEquiv shapeCasts_S1x1024_S1x1x1024).symm j) a).isLt
    have h2 := (i a).isLt
    exact Fin.ext (by omega)
  · exact le_of_eq (congrArg v (Equiv.apply_symm_apply _ j)).symm

/-- If the loop's flag goes down, the second sweep changed nothing. -/
theorem pay5_down (v a : Vec Ideal S1x1024 .f32) (S : Vec Ideal S1024x1024 .f32)
    (h : ¬Scalar.cmpf (F := Ideal) .ogt (k0_pay5 v a S S) (Scalar.ofBits .f32 0x00000000#32) = 1#1) :
    k0_pay4 v a S S = k0_pay3 v a S := by
  by_contra hne
  apply h
  obtain ⟨j, hj⟩ := Function.ne_iff.mp hne
  refine ogt_eq_one.mpr ?_
  rw [show (Scalar.ofBits .f32 0x00000000#32 : Ideal .f32) = 0 from Ideal.ofBits_zero_f32]
  have key := le_rowMax (select (cmpf .one (k0_pay4 v a S S) (k0_pay3 v a S)) (broadcast S1x1024 (Scalar.ofBits .f32 0x3F800000#32))
    (broadcast S1x1024 (Scalar.ofBits .f32 0x00000000#32))) (Shape.reshapeEquiv shapeCasts_S1_S1x1x1 fun a => ⟨![0, 0, 0] a, inpos_S1x1x1_p0_0_0 a⟩) j
  refine lt_of_lt_of_le ?_ key
  rw [select_apply, cmpf_apply, Scalar.select, if_pos (show FloatOps.cmpf (F := Ideal) .one _ _ = 1 from one_eq_one.mpr hj)]
  exact lt_of_lt_of_eq zero_lt_one Ideal.ofBits_one_f32.symm

end Cert.KernelIdeal.Nms

end
-- ==== Proof.KernelIdeal.Windows.lean ====
/- The windows the kernel body reads of its two tables, entry by entry. -/
module

public import proofs.«01_k».proof.Proof.KernelIdeal.Pay

@[expose] public section

set_option maxRecDepth 16384

noncomputable section

namespace Cert.KernelIdeal.Nms

open Cert.KernelIdeal Cert.KernelIdeal.Gen Cert.Greedy
open Idealize.ShloMosaic Idealize.ShloMosaic.ValueIdx Idealize.ShloMosaic.Tactic

/-! ## Windows of the two tables -/

theorem off1_eq : ∀ i : grid0.Coords, k0_off1 i = ![0, 1024 * (i 0).val] := by decide +kernel
theorem off2_eq : ∀ i : grid0.Coords, k0_off2 i = ![1, 1024 * (i 0).val] := by decide +kernel
theorem off3_eq : ∀ i : grid0.Coords, k0_off3 i = ![2, 1024 * (i 0).val] := by decide +kernel
theorem off4_eq : ∀ i : grid0.Coords, k0_off4 i = ![3, 1024 * (i 0).val] := by decide +kernel
theorem off5_eq : ∀ i : grid0.Coords, k0_off5 i = ![4, 1024 * (i 0).val] := by decide +kernel
theorem off6_eq : ∀ i : grid0.Coords, k0_off6 i = ![0, 1024 * (i 0).val] := by decide +kernel
theorem off7_eq : ∀ i : grid0.Coords, k0_off7 i = ![0, 1024 * (i 1).val] := by decide +kernel
theorem off8_eq : ∀ i : grid0.Coords, k0_off8 i = ![1, 1024 * (i 1).val] := by decide +kernel
theorem off9_eq : ∀ i : grid0.Coords, k0_off9 i = ![2, 1024 * (i 1).val] := by decide +kernel
theorem off10_eq : ∀ i : grid0.Coords, k0_off10 i = ![3, 1024 * (i 1).val] := by decide +kernel
theorem off11_eq : ∀ i : grid0.Coords, k0_off11 i = ![4, 1024 * (i 1).val] := by decide +kernel
theorem off12_eq : ∀ i : grid0.Coords, k0_off12 i = ![0, 1024 * (i 1).val] := by decide +kernel

theorem rowAt_apply (x0 : Vec Ideal S5x5120 .f32) {off : Fin 2 → ℕ} (h) (q : Fin 5) (b : ℕ) (e : off = ![q.val, b]) (c : Fin 1024) (hb : b + c.val < 5120) :
    rowAt x0 off h (ix2 0 c) = x0 (ix2 q ⟨b + c.val, hb⟩) := by
  subst e
  refine congrArg x0 (funext fun a => Fin.ext ?_)
  match a with
  | ⟨0, _⟩ => show q.val + 1 * 0 = q.val; omega
  | ⟨1, _⟩ => show b + 1 * c.val = b + c.val; omega

theorem colAt_apply (x1 : Vec Ideal S1024x6 .f32) (q : ℕ) (hq : q < 6) (h) (r : Fin 1024) :
    colAt x1 q h (ix2 r 0) = x1 (ix2 r ⟨q, hq⟩) := by
  refine congrArg x1 (funext fun a => Fin.ext ?_)
  match a with
  | ⟨0, _⟩ => show 0 + 1 * r.val = r.val; omega
  | ⟨1, _⟩ => show q + 1 * 0 = q; omega

theorem col_apply {α : Type} (v : S1024x1.Idx → α) (h : S1024x1.Broadcasts S1024x1024) (r c : Fin 1024) :
    broadcastTo S1024x1024 v h (ix2 r c) = v (ix2 r 0) := by
  refine broadcastTo_apply v h (ix2 r c) (ix2 r (0 : Fin 1)) fun ax => ?_
  match ax with
  | ⟨0, _⟩ => rfl
  | ⟨1, _⟩ => rfl

theorem row_apply {α : Type} (v : S1x1024.Idx → α) (h : S1x1024.Broadcasts S1024x1024) (r c : Fin 1024) :
    broadcastTo S1024x1024 v h (ix2 r c) = v (ix2 0 c) := broadcastTo_1b_ab_apply v h r c

end Cert.KernelIdeal.Nms

end
-- ==== Proof.KernelIdeal.Tests.lean ====
/- The kernel body's two overlap tests at the ideal values: the overlap matrix of a block, and the flags a later block keeps. -/
module

public import proofs.«01_k».proof.Proof.KernelIdeal.Windows

@[expose] public section

set_option maxRecDepth 16384

noncomputable section

namespace Cert.KernelIdeal.Nms

open Cert.KernelIdeal Cert.KernelIdeal.Gen Cert.Greedy
open Idealize.ShloMosaic Idealize.ShloMosaic.ValueIdx Idealize.ShloMosaic.Tactic

/-! ## The two tests -/

/-- The overlap test of positions `r` and `c` of a list of boxes, corners and area each. -/
abbrev Ov (C : ℕ → Fin 5 → EReal) (r c : ℕ) : Prop :=
  Over (C r 0) (C r 1) (C r 2) (C r 3) (C r 4) (C c 0) (C c 1) (C c 2) (C c 3) (C c 4)

/-- A block of rows holds the boxes from position `k` on. -/
structure Rows (C : ℕ → Fin 5 → EReal) (k : ℕ) (x : Vec Ideal S1024x6 .f32) : Prop where
  x1 : ∀ r : Fin 1024, x (ix2 r 0) = C (k + r.val) 0
  y1 : ∀ r : Fin 1024, x (ix2 r 1) = C (k + r.val) 1
  x2 : ∀ r : Fin 1024, x (ix2 r 2) = C (k + r.val) 2
  y2 : ∀ r : Fin 1024, x (ix2 r 3) = C (k + r.val) 3
  area : ∀ r : Fin 1024, x (ix2 r 5) = C (k + r.val) 4

/-- The table of columns holds the boxes. -/
def Cols (C : ℕ → Fin 5 → EReal) (x0 : Vec Ideal S5x5120 .f32) : Prop := ∀ (q : Fin 5) (c : Fin 5120), x0 (ix2 q c) = C c.val q

theorem gt_iff (r c : Fin 1024) : cmpi .sgt (iota .tc S1024x1024 32 [1] iota_S1024x1024_d1_w32) (iota .tc S1024x1024 32 [0] iota_S1024x1024_d0_w32) (ix2 r c) = 1#1
    ↔ r.val < c.val := by
  have hr := r.isLt; have hc := c.isLt
  show IntOp.cmpi .sgt (BitVec.ofNat 32 (0 * 1024 + c.val)) (BitVec.ofNat 32 (0 * 1024 + r.val)) = 1#1 ↔ _
  rw [zero_mul, zero_add, zero_add]
  rw [IntOp.cmpi_sgt, WordCmp.toInt_ofNat_of_lt (by omega), WordCmp.toInt_ofNat_of_lt (by omega)]
  exact Int.ofNat_lt

theorem andi_eq_one (a b : BitVec 1) : IntOp.andi a b = 1#1 ↔ a = 1#1 ∧ b = 1#1 := by
  revert a b; decide

theorem sel_lit (b : BitVec 1) : Scalar.select b (Ideal.ofBits .f32 0x3F800000#32) (Ideal.ofBits .f32 0x00000000#32) = flag (b = 1#1) := by
  rw [Ideal.ofBits_one_f32, Ideal.ofBits_zero_f32]; exact sel_flag b

section Tests

variable {C : ℕ → Fin 5 → EReal} {x0 : Vec Ideal S5x5120 .f32} {x1 : Vec Ideal S1024x6 .f32} {k : ℕ}

theorem Cols.rowAt (hC : Cols C x0) {off : Fin 2 → ℕ} (h) (q : Fin 5) (b : ℕ) (hb : b + 1024 ≤ 5120) (e : off = ![q.val, b]) (c : Fin 1024) :
    rowAt x0 off h (ix2 0 c) = C (b + c.val) q := by
  rw [rowAt_apply x0 h q b e c (by omega)]; exact hC q _

theorem diagS_apply (i : grid0.Coords) (h : k0_cond2 i = 1#1) (hC : Cols C x0) (hR : Rows C (1024 * (i 0).val) x1) (r c : Fin 1024) :
    diagS i h x0 x1 (ix2 r c) = flag (r.val < c.val ∧ Ov C (1024 * (i 0).val + r.val) (1024 * (i 0).val + c.val)) := by
  have hi : (i 0).val < 5 := (i 0).isLt
  unfold diagS k0_pay2 k0_pay11 k0_pay12 k0_pay13 k0_pay14
  simp only [shapeCast_self, select_apply]
  refine (sel_lit _).trans (flag_congr ?_)
  refine (andi_eq_one _ _).trans (and_congr (gt_iff r c) ?_)
  refine ogt_eq_one.trans ?_
  simp only [broadcast_apply, mulf_apply, addf_apply, subf_apply, maximumf_apply, minimumf_apply, col_apply, row_apply]
  rw [colAt_apply x1 0 (by decide), colAt_apply x1 1 (by decide), colAt_apply x1 2 (by decide), colAt_apply x1 3 (by decide), colAt_apply x1 5 (by decide),
    hC.rowAt _ 0 _ (by omega) (off1_eq i), hC.rowAt _ 1 _ (by omega) (off2_eq i), hC.rowAt _ 2 _ (by omega) (off3_eq i),
    hC.rowAt _ 3 _ (by omega) (off4_eq i), hC.rowAt _ 4 _ (by omega) (off5_eq i)]
  have e0 : x1 (ix2 r ⟨0, by decide⟩) = _ := hR.x1 r
  have e1 : x1 (ix2 r ⟨1, by decide⟩) = _ := hR.y1 r
  have e2 : x1 (ix2 r ⟨2, by decide⟩) = _ := hR.x2 r
  have e3 : x1 (ix2 r ⟨3, by decide⟩) = _ := hR.y2 r
  have e4 : x1 (ix2 r ⟨5, by decide⟩) = _ := hR.area r
  rw [e0, e1, e2, e3, e4, show (Scalar.ofBits .f32 0x40400000#32 : Ideal .f32) = 3 from three_f32,
    show (Scalar.ofBits .f32 0x00000000#32 : Ideal .f32) = 0 from Ideal.ofBits_zero_f32]
  exact Iff.rfl

theorem neg_inf_f32 : Ideal.ofBits .f32 0xFF800000#32 = ⊥ := by
  simp [Ideal.ofBits, Ideal.ieee]

/-- The maximum of a matrix of flags down a column is positive just when one of them is up. -/
theorem colMax_pos (v : FVec Ideal S1024x1024 .f32) (M : ℕ → Prop) (c : Fin 1024) (hv : ∀ r : Fin 1024, v (ix2 r c) = flag (M r.val)) :
    0 < multiReduction (F := Ideal) .maximumf [0] S1024 v 0xFF800000#32 reduces_S1024x1024_S1024 (.inl rfl) rfl (ix1 c)
      ↔ ∃ r, r < 1024 ∧ M r := by
  rw [show multiReduction (F := Ideal) .maximumf [0] S1024 v 0xFF800000#32 reduces_S1024x1024_S1024 (.inl rfl) rfl (ix1 c) = _ from
    Ideal.multiReduction_maximumf_single v _ reduces_S1024x1024_S1024 _ _ (ix1 c)]
  have hl : ∀ r : Fin 1024, reduces_S1024x1024_S1024.lift (ix1 c) r = ix2 r c := fun r => by
    funext a
    match a with
    | ⟨0, _⟩ => rfl
    | ⟨1, _⟩ => rfl
  have hv' : ∀ r : Fin 1024, (v ∘ reduces_S1024x1024_S1024.lift (ix1 c)) r = flag (M r.val) := fun r => (congrArg v (hl r)).trans (hv r)
  refine (Finset.lt_fold_max _).trans ?_
  constructor
  · rintro (h | ⟨r, _, h⟩)
    · rw [show (FloatOps.ofBits .f32 0xFF800000#32 : Ideal .f32) = ⊥ from neg_inf_f32] at h
      exact absurd h not_lt_bot
    · exact ⟨r.val, r.isLt, flag_pos.mp (lt_of_lt_of_eq h (hv' r))⟩
  · rintro ⟨r, hr, h⟩
    exact Or.inr ⟨⟨r, hr⟩, Finset.mem_univ _, lt_of_lt_of_eq (flag_pos.mpr h) (hv' ⟨r, hr⟩).symm⟩

theorem colMax_gt (v : FVec Ideal S1024x1024 .f32) (M : ℕ → Prop) (c : Fin 1024) (hv : ∀ r : Fin 1024, v (ix2 r c) = flag (M r.val)) :
    cmpf .ogt (multiReduction (F := Ideal) .maximumf [0] S1024 v 0xFF800000#32 reduces_S1024x1024_S1024 (.inl rfl) rfl)
      (broadcast S1024 (Scalar.ofBits .f32 0x00000000#32)) (ix1 c) = 1#1 ↔ ∃ r, r < 1024 ∧ M r := by
  rw [← colMax_pos v M c hv, cmpf_apply]
  generalize multiReduction (F := Ideal) .maximumf [0] S1024 v 0xFF800000#32 reduces_S1024x1024_S1024 (.inl rfl) rfl (ix1 c) = X
  rw [broadcast_apply, show (Scalar.ofBits .f32 0x00000000#32 : Ideal .f32) = 0 from Ideal.ofBits_zero_f32]
  exact ogt_eq_one

theorem sel_zero_flag (b : BitVec 1) (p : Prop) : Scalar.select b (Ideal.ofBits .f32 0x00000000#32) (flag p) = flag (p ∧ ¬b = 1#1) := by
  rw [Ideal.ofBits_zero_f32]
  by_cases h : b = 1#1
  · exact (if_pos h).trans (flag_false fun hh => hh.2 h).symm
  · exact (if_neg h).trans (flag_congr ⟨fun hp => ⟨hp, h⟩, fun hp => hp.1⟩)

theorem tailFlags_apply (i : grid0.Coords) (h : k0_cond4 i = 1#1) (hC : Cols C x0) (hR : Rows C (1024 * (i 0).val) x1)
    (hfar : ∀ r, C r 2 ≤ ((30000 : ℝ) : EReal)) (harea : ∀ r, 0 ≤ C r 4) (K P : ℕ → Prop)
    (kc : Vec Ideal S1024x1 .f32) (hk : ∀ r : Fin 1024, kc (ix2 r 0) = flag (K r.val))
    (xs : Vec Ideal S1x5120 .f32) (hP : ∀ c : Fin 5120, xs (ix2 0 c) = flag (P c.val)) (c : Fin 1024) :
    tailFlags i h x0 x1 xs kc (ix2 0 c)
      = flag (P (1024 * (i 1).val + c.val) ∧ ¬∃ r, r < 1024 ∧ K r ∧ Ov C (1024 * (i 0).val + r) (1024 * (i 1).val + c.val)) := by
  have hi : (i 1).val < 5 := (i 1).isLt
  unfold tailFlags k0_pay10 k0_pay15 k0_pay16 k0_pay17 k0_pay18 k0_pay19 k0_pay20 k0_pay21
  simp only [shapeCast_self, select_apply, shapeCast_a_1a_apply]
  rw [show VecWindow.window (s := S1x5120) xs (k0_off12 i) S1x1024.size (k0_off12_inb i h) (ix2 0 c) = flag (P (1024 * (i 1).val + c.val)) from ?_]
  · rw [show (broadcast S1x1024 (Scalar.ofBits .f32 0x00000000#32 : Ideal .f32)) (ix2 0 c) = Ideal.ofBits .f32 0x00000000#32 from rfl, sel_zero_flag]
    refine flag_congr ?_
    refine and_congr_right ?_
    intro _
    refine not_congr ?_
    refine colMax_gt _ (fun r => K r ∧ Ov C (1024 * (i 0).val + r) (1024 * (i 1).val + c.val)) c fun r => ?_
    refine (sel_lit _).trans (flag_congr ?_)
    refine ogt_eq_one.trans ?_
    simp only [broadcast_apply, mulf_apply, addf_apply, subf_apply, maximumf_apply, minimumf_apply, col_apply, row_apply, select_apply, cmpf_apply, hk]
    rw [colAt_apply x1 0 (by decide), colAt_apply x1 1 (by decide), colAt_apply x1 2 (by decide), colAt_apply x1 3 (by decide), colAt_apply x1 5 (by decide),
      hC.rowAt _ 0 _ (by omega) (off7_eq i), hC.rowAt _ 1 _ (by omega) (off8_eq i), hC.rowAt _ 2 _ (by omega) (off9_eq i),
      hC.rowAt _ 3 _ (by omega) (off10_eq i), hC.rowAt _ 4 _ (by omega) (off11_eq i)]
    have e0 : x1 (ix2 r ⟨0, by decide⟩) = _ := hR.x1 r
    have e1 : x1 (ix2 r ⟨1, by decide⟩) = _ := hR.y1 r
    have e2 : x1 (ix2 r ⟨2, by decide⟩) = _ := hR.x2 r
    have e3 : x1 (ix2 r ⟨3, by decide⟩) = _ := hR.y2 r
    have e4 : x1 (ix2 r ⟨5, by decide⟩) = _ := hR.area r
    rw [e0, e1, e2, e3, e4, show (Scalar.ofBits .f32 0x40400000#32 : Ideal .f32) = 3 from three_f32,
      show (Scalar.ofBits .f32 0x00000000#32 : Ideal .f32) = 0 from Ideal.ofBits_zero_f32,
      show (Scalar.ofBits .f32 0x46EA6000#32 : Ideal .f32) = ((30000 : ℝ) : EReal) from far_f32]
    by_cases hK : K r.val
    · rw [flag_true hK, Scalar.select, if_pos (show FloatOps.cmpf (F := Ideal) (φ := .f32) .ogt 1 0 = 1 from ogt_eq_one.mpr zero_lt_one)]
      exact (and_iff_right hK).symm
    · rw [flag_false hK, Scalar.select, if_neg (show ¬FloatOps.cmpf (F := Ideal) (φ := .f32) .ogt 0 0 = 1 from fun h => lt_irrefl _ (ogt_eq_one.mp h))]
      exact iff_of_false (not_over (hfar _) (add_nonneg (harea _) (harea _))) fun h => hK h.1
  · refine Eq.trans (congrArg xs ?_) (hP ⟨1024 * (i 1).val + c.val, by omega⟩)
    funext a
    have e := congrFun (off12_eq i) a
    refine Fin.ext ?_
    match a with
    | ⟨0, _⟩ => show k0_off12 i 0 + 1 * 0 = 0; rw [off12_eq]; rfl
    | ⟨1, _⟩ => show k0_off12 i 1 + 1 * c.val = 1024 * (i 1).val + c.val; rw [off12_eq, one_mul]; rfl

end Tests

end Cert.KernelIdeal.Nms

end
-- ==== Proof.Math.Greedy.lean ====
/- Greedy selection over the natural numbers, with no program in sight: which positions survive when each survivor strikes
   out the later positions it overlaps; how striking out one at a time, and settling a block at once by repeated sweeps,
   both arrive at it. -/
module

public import Mathlib.Order.Basic
public import Mathlib.Tactic.Ring
public import Mathlib.Tactic.Linarith

@[expose] public section

namespace Cert.Greedy

variable (ov : ℕ → ℕ → Prop)

/-- Position `c` survives: no earlier survivor overlaps it. -/
def Kept (c : ℕ) : Prop := ∀ r, (h : r < c) → Kept r → ¬ov r c
termination_by c

theorem kept_iff (c : ℕ) : Kept ov c ↔ ∀ r, r < c → Kept ov r → ¬ov r c := by
  conv_lhs => unfold Kept

/-- Not struck out by the survivors before `k`. -/
def Free (k c : ℕ) : Prop := ∀ r, r < k → r < c → Kept ov r → ¬ov r c

theorem free_zero (c : ℕ) : Free ov 0 c := fun r h => absurd h (Nat.not_lt_zero r)

/-- Once everything before `c` has been gone through, being free is surviving. -/
theorem free_iff_kept {k c : ℕ} (h : c ≤ k) : Free ov k c ↔ Kept ov c := by
  rw [kept_iff]
  exact ⟨fun hf r hr => hf r (Nat.lt_of_lt_of_le hr h) hr, fun hk r _ hr => hk r hr⟩

/-- Going through position `k`, if it is itself free, strikes out the later positions it overlaps. -/
theorem free_succ (k c : ℕ) : Free ov (k + 1) c ↔ Free ov k c ∧ ¬(ov k c ∧ Free ov k k ∧ k < c) := by
  rw [free_iff_kept ov (le_refl k)]
  constructor
  · exact fun h => ⟨fun r hr => h r (Nat.lt_succ_of_lt hr), fun ⟨ho, hk, hc⟩ => h k (Nat.lt_succ_self k) hc hk ho⟩
  · rintro ⟨h, h'⟩ r hr hc hk ho
    rcases Nat.lt_succ_iff_lt_or_eq.mp hr with hr | rfl
    · exact h r hr hc hk ho
    · exact h' ⟨ho, hk, hc⟩

/-- Going through the `n` positions from `k` on strikes out what their survivors overlap. -/
theorem free_add (k n c : ℕ) (h : k + n ≤ c) :
    Free ov (k + n) c ↔ Free ov k c ∧ ¬∃ r, r < n ∧ Kept ov (k + r) ∧ ov (k + r) c := by
  constructor
  · exact fun hf => ⟨fun r hr => hf r (by omega), fun ⟨r, hr, hk, ho⟩ => hf (k + r) (by omega) (by omega) hk ho⟩
  · rintro ⟨hf, hn⟩ r hr hc hk ho
    by_cases hrk : r < k
    · exact hf r hrk hc hk ho
    · exact hn ⟨r - k, by omega, by rwa [Nat.add_sub_cancel' (by omega)], by rwa [Nat.add_sub_cancel' (by omega)]⟩

/-- One sweep of a block that starts at `k`: position `c` of it stays if it was free and nothing standing before it in the
    block overlaps it. -/
def Sweep (k : ℕ) (Q : ℕ → Prop) (c : ℕ) : Prop := Free ov k (k + c) ∧ ¬∃ r, r < c ∧ Q r ∧ ov (k + r) (k + c)

theorem kept_block (k c : ℕ) : Kept ov (k + c) ↔ Sweep ov k (fun r => Kept ov (k + r)) c := by
  rw [← free_iff_kept ov (le_refl (k + c)), free_add ov k c _ (le_refl _)]; rfl

/-- A sweep of flags right below `n` is right up to and with `n`. -/
theorem sweep_right {k n : ℕ} {Q : ℕ → Prop} (h : ∀ c, c < n → (Q c ↔ Kept ov (k + c))) (c : ℕ) (hc : c < n + 1) :
    Sweep ov k Q c ↔ Kept ov (k + c) := by
  rw [kept_block]
  refine and_congr_right fun _ => not_congr (exists_congr fun r => and_congr_right fun hr => ?_)
  rw [h r (by omega)]

/-- Flags that a sweep leaves as they are, below `N`, are right. -/
theorem sweep_fixed {k N : ℕ} {Q : ℕ → Prop} (h : ∀ c, c < N → (Sweep ov k Q c ↔ Q c)) :
    ∀ c, c < N → (Q c ↔ Kept ov (k + c)) := by
  intro c
  induction c using Nat.strong_induction_on with
  | _ c ih =>
    intro hc
    rw [← h c hc]
    exact sweep_right ov (n := c) (fun r hr => ih r hr (by omega)) c (Nat.lt_succ_self c)

end Cert.Greedy
-- ==== Proof.KernelIdeal.Flags.lean ====
/- The flags the kernel holds after each point of its grid, at the ideal values: the diagonal points settle their block, the
   points right of the diagonal strike out what the settled block overlaps. -/
module

public import proofs.«01_k».proof.Proof.KernelIdeal.Traj
public import proofs.«01_k».proof.Proof.KernelIdeal.Tests
public import proofs.«01_k».proof.Proof.Math.Greedy

@[expose] public section

set_option maxRecDepth 16384

noncomputable section

namespace Cert.KernelIdeal.Nms

open Cert.KernelIdeal Cert.KernelIdeal.Gen Cert.Greedy
open Idealize.ShloMosaic Idealize.ShloMosaic.ValueIdx Idealize.ShloMosaic.Tactic

theorem flags_ext {n : ℕ} {P Q : ℕ → Prop} (h : ∀ c, c < n → (P c ↔ Q c)) : flags (n := n) P = flags Q :=
  funext fun j => flag_congr (h _ (j 1).isLt)

theorem flags_inj {n : ℕ} {P Q : ℕ → Prop} (h : flags (n := n) P = flags Q) (c : ℕ) (hc : c < n) : P c ↔ Q c :=
  flag_inj (congrFun h (ix2 0 ⟨c, hc⟩))

/-! ## Settling a block -/

section Settle

variable {C : ℕ → Fin 5 → EReal} {k : ℕ} {S : Vec Ideal S1024x1024 .f32}

/-- One sweep of a row of flags. -/
theorem sweep_flags (hS : ∀ r c : Fin 1024, S (ix2 r c) = flag (r.val < c.val ∧ Ov C (k + r.val) (k + c.val))) (Q : ℕ → Prop) :
    k0_pay3 (F := Ideal) (flags fun c => Free (Ov C) k (k + c)) (flags Q) S = flags (Sweep (Ov C) k Q) := by
  rw [pay3_flags _ Q (fun r c => r < c ∧ Ov C (k + r) (k + c)) S hS]
  refine flags_ext fun c hc => and_congr_right fun _ => not_congr ⟨?_, ?_⟩
  · rintro ⟨r, _, hq, hr, ho⟩; exact ⟨r, hr, hq, ho⟩
  · rintro ⟨r, hr, hq, ho⟩; exact ⟨r, by omega, hq, hr, ho⟩

theorem up_iff (b : BitVec 1) : Scalar.cmpi .ne (Scalar.extui b : BitVec 32) 0#32 = 1#1 ↔ b = 1#1 := by
  revert b; decide

/-- After `n` trips the flags are right below `2 n`, and everywhere once the loop's flag is down. -/
theorem sweeps_flags (hS : ∀ r c : Fin 1024, S (ix2 r c) = flag (r.val < c.val ∧ Ov C (k + r.val) (k + c.val))) (n : ℕ) :
    ∃ Q : ℕ → Prop, (sweeps (F := Ideal) S (flags fun c => Free (Ov C) k (k + c)) n).1 = flags Q
      ∧ (∀ c, c < min (2 * n) 1024 → (Q c ↔ Kept (Ov C) (k + c)))
      ∧ (¬(sweeps (F := Ideal) S (flags fun c => Free (Ov C) k (k + c)) n).2 = 1#1 → ∀ c, c < 1024 → (Q c ↔ Kept (Ov C) (k + c))) := by
  induction n with
  | zero => exact ⟨fun c => Free (Ov C) k (k + c), rfl, fun c hc => absurd hc (by omega), fun h => absurd rfl h⟩
  | succ n ih =>
    obtain ⟨Q, h1, h2, h3⟩ := ih
    have e : sweeps (F := Ideal) S (flags fun c => Free (Ov C) k (k + c)) (n + 1)
      = sweep S (flags fun c => Free (Ov C) k (k + c)) (sweeps S (flags fun c => Free (Ov C) k (k + c)) n) := rfl
    rw [e]; unfold sweep
    by_cases hb : (sweeps (F := Ideal) S (flags fun c => Free (Ov C) k (k + c)) n).2 = 1#1
    · rw [if_pos ((up_iff _).mpr hb), h1]
      have e4 : k0_pay4 (F := Ideal) (flags fun c => Free (Ov C) k (k + c)) (flags Q) S S = flags (Sweep (Ov C) k (Sweep (Ov C) k Q)) := by
        rw [pay4_eq, sweep_flags hS, sweep_flags hS]
      refine ⟨Sweep (Ov C) k (Sweep (Ov C) k Q), e4, fun c hc => ?_, fun hd c hc => ?_⟩
      · exact sweep_right (Ov C) (n := min (2 * n) 1024 + 1) (fun c hc => sweep_right (Ov C) h2 c hc) c (by omega)
      · have hsame := pay5_down _ _ _ hd
        rw [e4, sweep_flags hS] at hsame
        have hfix := flags_inj hsame
        exact (hfix c hc).trans (sweep_fixed (Ov C) hfix c hc)
    · rw [if_neg (fun h => hb ((up_iff _).mp h))]
      exact ⟨Q, h1, fun c hc => h3 hb c (by omega), h3⟩

theorem sweeps_settle (hS : ∀ r c : Fin 1024, S (ix2 r c) = flag (r.val < c.val ∧ Ov C (k + r.val) (k + c.val))) :
    (sweeps (F := Ideal) S (flags fun c => Free (Ov C) k (k + c)) 512).1 = flags fun c => Kept (Ov C) (k + c) := by
  obtain ⟨Q, h1, h2, _⟩ := sweeps_flags hS 512
  rw [h1]
  exact flags_ext fun c hc => h2 c (by omega)

end Settle

/-! ## Windows of the row of flags -/

theorem window_flags (X : ℕ → Prop) {off : Fin 2 → ℕ} (h) (b : ℕ) (e : off = ![0, b]) :
    VecWindow.window (s := S1x5120) (flags X) off S1x1024.size h = flags (n := 1024) fun c => X (b + c) := by
  subst e
  funext j
  refine flag_congr (iff_of_eq (congrArg X ?_))
  show b + 1 * (j 1).val = b + (j 1).val
  omega

theorem put_flags (X W : ℕ → Prop) {off : Fin 2 → ℕ} (b : ℕ) (e : off = ![0, b]) :
    VecWindow.put (s := S1x5120) (flags X) off S1x1024.size (flags (n := 1024) W)
      = flags fun c => (b ≤ c ∧ c < b + 1024 ∧ W (c - b)) ∨ (¬(b ≤ c ∧ c < b + 1024) ∧ X c) := by
  subst e
  funext j
  unfold VecWindow.put
  have hj0 : (j 0).val < 1 := (j 0).isLt
  by_cases h : b ≤ (j 1).val ∧ (j 1).val < b + 1024
  · rw [dif_pos (fun a => by
      match a with
      | ⟨0, _⟩ => exact ⟨Nat.zero_le _, hj0⟩
      | ⟨1, _⟩ => exact h)]
    refine flag_congr ⟨fun hw => Or.inl ⟨h.1, h.2, hw⟩, ?_⟩
    rintro (⟨_, _, hw⟩ | ⟨hn, _⟩)
    · exact hw
    · exact absurd h hn
  · rw [dif_neg (fun ha => h (ha 1))]
    refine flag_congr ⟨fun hx => Or.inr ⟨h, hx⟩, ?_⟩
    rintro (⟨h1, h2, _⟩ | ⟨_, hx⟩)
    · exact absurd ⟨h1, h2⟩ h
    · exact hx

theorem pay8_flags (Q : ℕ → Prop) (r : Fin 1024) : k0_pay8 (F := Ideal) (flags Q) (ix2 r 0) = flag (Q r.val) := by
  unfold k0_pay8 k0_pay7
  rw [shapeCast_self]
  exact transpose_ix2_apply _ _ r 0

theorem pay9_flags (Q : ℕ → Prop) (x : Vec Ideal S1024x5 .f32) (r : Fin 1024) (q : Fin 5) :
    k0_pay9 (F := Ideal) (flags Q) x (ix2 r q) = x (ix2 r q) * flag (Q r.val) := by
  unfold k0_pay9 k0_pay7
  rw [shapeCast_self, mulf_apply]
  congr 1

/-! ## The flags after each point -/

section Points

variable (m : (ℓ : Loc nD τ sig) → Buf (Elt Ideal) ℓ) (dev : Dev nD) (C R : ℕ → Fin 5 → EReal)

/-- The two tables hold the boxes `C`, the first five columns of the second one being `R`; their right edges stay left of where a struck box is put and their areas are not negative. -/
structure Holds : Prop where
  cols : ∀ t : Fin cfg0.N, Cols C (iblk m dev 0 t)
  rows : ∀ t : Fin cfg0.N, Rows C (1024 * (t.val / 5)) (iblk m dev 1 t)
  vals : ∀ (t : Fin cfg0.N) (r : Fin 1024) (q : Fin 5), cols5 (iblk m dev 1 t) (ix2 r q) = R (1024 * (t.val / 5) + r.val) q
  far : ∀ r, C r 2 ≤ ((30000 : ℝ) : EReal)
  area : ∀ r, 0 ≤ C r 4

theorem coords_eq : ∀ t : Fin cfg0.N, (grid0.coords t 0).val = t.val / 5 ∧ (grid0.coords t 1).val = t.val % 5 :=
  (by decide +kernel : ∀ t : Fin grid0.N, (grid0.coords t 0).val = t.val / 5 ∧ (grid0.coords t 1).val = t.val % 5)

/-- How many blocks have struck column `c` after point `t`. -/
def done (t c : ℕ) : ℕ := if c / 1024 ≤ t % 5 then min (t / 5 + 1) (c / 1024 + 1) else min (t / 5) (c / 1024 + 1)

/-- What is held after point `t`. -/
structure HeldAt (t : Fin cfg0.N) (p : Held Ideal) : Prop where
  keep : p.1 = flags fun c => Free (Ov C) (1024 * done t.val c) c
  block : t.val / 5 ≤ t.val % 5 → ∀ r : Fin 1024, p.2.1 (ix2 r 0) = flag (Kept (Ov C) (1024 * (t.val / 5) + r.val))
  out : t.val / 5 ≤ t.val % 5 → ∀ (r : Fin 1024) (q : Fin 5),
    p.2.2 (ix2 r q) = R (1024 * (t.val / 5) + r.val) q * flag (Kept (Ov C) (1024 * (t.val / 5) + r.val))

variable {m dev C R} (H : Holds m dev C R)
include H

/-- A diagonal point, from flags that every earlier block has struck. -/
theorem diag_held (t : Fin cfg0.N) (ht : t.val % 6 = 0) (h : k0_cond2 (grid0.coords t) = 1#1) (X : ℕ → Prop)
    (hX : ∀ c, c < 1024 → (X (1024 * (t.val / 5) + c) ↔ Free (Ov C) (1024 * (t.val / 5)) (1024 * (t.val / 5) + c)))
    (hX' : ∀ c, c < 5120 → c / 1024 ≠ t.val / 5 → (X c ↔ Free (Ov C) (1024 * done t.val c) c)) :
    HeldAt C R t (diagStep m dev t h (flags X)) := by
  have hN : t.val < 25 := lt_of_lt_of_eq t.isLt (show cfg0.N = 25 from N_0)
  have hi : (grid0.coords t 0).val = t.val / 5 := (coords_eq t).1
  have hset : settled (grid0.coords t) h (iblk m dev 0 t) (iblk m dev 1 t) (flags X) = flags fun c => Kept (Ov C) (1024 * (t.val / 5) + c) := by
    unfold settled
    rw [show k0_t1_loop.trips = 512 from rfl,
      show keepIn (grid0.coords t) h (flags X) = flags fun c => Free (Ov C) (1024 * (t.val / 5)) (1024 * (t.val / 5) + c) from
        (window_flags X _ _ ((off6_eq _).trans (by rw [hi]))).trans (flags_ext hX)]
    refine sweeps_settle fun r c => ?_
    have := diagS_apply (grid0.coords t) h (H.cols t) (by rw [hi]; exact H.rows t) r c
    rw [hi] at this; exact this
  unfold diagStep
  refine ⟨?_, fun _ r => ?_, fun _ r q => ?_⟩
  · show diagKeep _ _ _ _ _ = _
    unfold diagKeep
    rw [hset, show k0_pay6 (flags (n := 1024) fun c => Kept (Ov C) (1024 * (t.val / 5) + c)) = flags fun c => Kept (Ov C) (1024 * (t.val / 5) + c) from by
      unfold k0_pay6; rw [shapeCast_self], put_flags X _ _ ((off6_eq _).trans (by rw [hi]))]
    refine flags_ext fun c hc => ?_
    by_cases hb : c / 1024 = t.val / 5
    · have hin : 1024 * (t.val / 5) ≤ c ∧ c < 1024 * (t.val / 5) + 1024 := by omega
      have hd : done t.val c = t.val / 5 + 1 := by unfold done; rw [hb, if_pos (by omega), min_self]
      have e : 1024 * (t.val / 5) + (c - 1024 * (t.val / 5)) = c := by omega
      simp only [hin, true_and, not_true_eq_false, false_and, or_false, and_self, e]
      rw [free_iff_kept _ (by rw [hd]; omega)]
    · have hin : ¬(1024 * (t.val / 5) ≤ c ∧ c < 1024 * (t.val / 5) + 1024) := by omega
      have hin' : ¬(1024 * (t.val / 5) ≤ c ∧ c < 1024 * (t.val / 5) + 1024 ∧ Kept (Ov C) (1024 * (t.val / 5) + (c - 1024 * (t.val / 5)))) :=
        fun h => hin ⟨h.1, h.2.1⟩
      simp only [hin, hin', not_false_eq_true, true_and, false_or]
      exact hX' c hc hb
  · dsimp only
    rw [hset, pay8_flags]
  · dsimp only
    rw [hset, pay9_flags, H.vals]

theorem held_at (n : ℕ) (hn : n < cfg0.N) : HeldAt C R ⟨n, hn⟩ (held m dev n hn) := by
  have hN : n < 25 := lt_of_lt_of_eq hn (show cfg0.N = 25 from N_0)
  induction n with
  | zero =>
    have h : k0_cond2 (grid0.coords ⟨0, hn⟩) = 1#1 := (diag_iff ⟨0, hn⟩).mpr rfl
    rw [show held m dev 0 hn = _ from held_zero m dev ⟨0, hn⟩ rfl h]
    have e1 : k0_pay1 (F := Ideal) = flags fun _ => True := by
      unfold k0_pay1; dsimp only; rw [shapeCast_self]
      funext j; exact (show Ideal.ofBits .f32 0x3F800000#32 = flag True by rw [Ideal.ofBits_one_f32, flag_true trivial])
    rw [e1]
    have hv : (⟨0, hn⟩ : Fin cfg0.N).val = 0 := rfl
    refine diag_held H ⟨0, hn⟩ rfl h _ (fun c hc => ⟨fun _ r hr => absurd hr (by rw [hv]; omega), fun _ => trivial⟩) fun c hc hb => ⟨fun _ => ?_, fun _ => trivial⟩
    have hd : done 0 c = 0 := by
      unfold done; rw [if_neg]; rfl
      show ¬c / 1024 ≤ 0
      rw [hv] at hb
      omega
    show Free (Ov C) (1024 * done 0 c) c
    rw [hd]; exact free_zero _ _
  | succ n ih =>
    have ih := ih (Nat.lt_of_succ_lt hn) (by omega)
    have hz : (⟨n + 1, hn⟩ : Fin cfg0.N).val ≠ 0 := Nat.succ_ne_zero n
    by_cases hd : (n + 1) % 6 = 0
    · have h : k0_cond2 (grid0.coords ⟨n + 1, hn⟩) = 1#1 := (diag_iff ⟨n + 1, hn⟩).mpr hd
      rw [show held m dev (n + 1) hn = _ from held_diag m dev ⟨n + 1, hn⟩ hz h]
      show HeldAt C R ⟨n + 1, hn⟩ (diagStep m dev ⟨n + 1, hn⟩ h (held m dev n _).1)
      rw [ih.keep]
      refine diag_held H ⟨n + 1, hn⟩ hd h _ (fun c hc => ?_) fun c hc hb => ?_
      · show Free (Ov C) (1024 * done n (1024 * ((n + 1) / 5) + c)) _ ↔ Free (Ov C) (1024 * ((n + 1) / 5)) (1024 * ((n + 1) / 5) + c)
        have : done n (1024 * ((n + 1) / 5) + c) = (n + 1) / 5 := by
          have : (1024 * ((n + 1) / 5) + c) / 1024 = (n + 1) / 5 := by omega
          unfold done; rw [this]; split <;> omega
        rw [this]
      · show Free (Ov C) (1024 * done n c) c ↔ Free (Ov C) (1024 * done (n + 1) c) c
        have : done n c = done (n + 1) c := by
          have : c / 1024 ≠ (n + 1) / 5 := hb
          have : c / 1024 < 5 := by omega
          unfold done; split <;> split <;> omega
        rw [this]
    · have h : ¬k0_cond2 (grid0.coords ⟨n + 1, hn⟩) = 1#1 := fun h => hd ((diag_iff ⟨n + 1, hn⟩).mp h)
      by_cases ht : (n + 1) / 5 < (n + 1) % 5
      · have h' : k0_cond4 (grid0.coords ⟨n + 1, hn⟩) = 1#1 := (tail_iff ⟨n + 1, hn⟩).mpr ht
        have hi : (grid0.coords ⟨n + 1, hn⟩ 0).val = (n + 1) / 5 := (coords_eq ⟨n + 1, hn⟩).1
        have hj : (grid0.coords ⟨n + 1, hn⟩ 1).val = (n + 1) % 5 := (coords_eq ⟨n + 1, hn⟩).2
        have hq : n / 5 = (n + 1) / 5 := by omega
        have hle : n / 5 ≤ n % 5 := by omega
        rw [show held m dev (n + 1) hn = _ from held_tail m dev ⟨n + 1, hn⟩ hz h h']
        show HeldAt C R ⟨n + 1, hn⟩ (tailKeep (grid0.coords ⟨n + 1, hn⟩) h' (iblk m dev 0 ⟨n + 1, hn⟩) (iblk m dev 1 ⟨n + 1, hn⟩) (held m dev n _).1
          (held m dev n _).2.1, (held m dev n _).2)
        have hb := ih.block hle
        have ho := ih.out hle
        refine ⟨?_, fun _ r => ?_, fun _ r q => ?_⟩
        · show tailKeep _ _ _ _ _ _ = _
          rw [ih.keep]; unfold tailKeep
          have hf : tailFlags (grid0.coords ⟨n + 1, hn⟩) h' (iblk m dev 0 ⟨n + 1, hn⟩) (iblk m dev 1 ⟨n + 1, hn⟩)
              (flags fun c => Free (Ov C) (1024 * done n c) c) (held m dev n (Nat.lt_of_succ_lt hn)).2.1
              = flags fun c => Free (Ov C) (1024 * ((n + 1) / 5 + 1)) (1024 * ((n + 1) % 5) + c) := by
            funext j
            obtain ⟨r, c, rfl⟩ : ∃ r c, j = ix2 r c := ⟨_, _, eq_ix2 j⟩
            obtain rfl : r = 0 := Subsingleton.elim _ _
            have e := tailFlags_apply (grid0.coords ⟨n + 1, hn⟩) h' (H.cols ⟨n + 1, hn⟩) (by rw [hi]; exact H.rows ⟨n + 1, hn⟩) H.far H.area
              (fun r => Kept (Ov C) (1024 * (n / 5) + r)) (fun c => Free (Ov C) (1024 * done n c) c) _ hb
              (flags fun c => Free (Ov C) (1024 * done n c) c) (fun c => rfl) c
            rw [e, hi, hj]
            refine flag_congr ?_
            have e1 : done n (1024 * ((n + 1) % 5) + c.val) = (n + 1) / 5 := by
              have : (1024 * ((n + 1) % 5) + c.val) / 1024 = (n + 1) % 5 := by have := c.isLt; omega
              unfold done; rw [this]; split <;> omega
            show _ ↔ Free (Ov C) (1024 * ((n + 1) / 5 + 1)) (1024 * ((n + 1) % 5) + c.val)
            rw [e1, hq, Nat.mul_add, Nat.mul_one, free_add _ _ _ _ (by omega)]
          rw [hf, put_flags _ _ _ ((off12_eq _).trans (by rw [hj]))]
          refine flags_ext fun c hc => ?_
          show _ ↔ Free (Ov C) (1024 * done (n + 1) c) c
          by_cases hb : c / 1024 = (n + 1) % 5
          · have hin : 1024 * ((n + 1) % 5) ≤ c ∧ c < 1024 * ((n + 1) % 5) + 1024 := by omega
            have e : 1024 * ((n + 1) % 5) + (c - 1024 * ((n + 1) % 5)) = c := by omega
            have hdn : done (n + 1) c = (n + 1) / 5 + 1 := by unfold done; rw [hb]; split <;> omega
            simp only [hin, true_and, not_true_eq_false, false_and, or_false, and_self, e]
            rw [hdn]
          · have hin : ¬(1024 * ((n + 1) % 5) ≤ c ∧ c < 1024 * ((n + 1) % 5) + 1024) := by omega
            have hdn : done n c = done (n + 1) c := by
              have : c / 1024 < 5 := by omega
              unfold done; split <;> split <;> omega
            rw [← hdn]
            constructor
            · rintro (⟨h1, h2, _⟩ | ⟨_, hx⟩)
              · exact absurd ⟨h1, h2⟩ hin
              · exact hx
            · exact fun hx => Or.inr ⟨hin, hx⟩
        · show (held m dev n _).2.1 _ = flag (Kept (Ov C) (1024 * ((n + 1) / 5) + r.val))
          rw [hb r]; show flag (Kept (Ov C) (1024 * (n / 5) + r.val)) = _; rw [hq]
        · show (held m dev n _).2.2 _ = R (1024 * ((n + 1) / 5) + r.val) q * flag (Kept (Ov C) (1024 * ((n + 1) / 5) + r.val))
          rw [ho r q]; show R (1024 * (n / 5) + r.val) q * flag (Kept (Ov C) (1024 * (n / 5) + r.val)) = _; rw [hq]
      · have h' : ¬k0_cond4 (grid0.coords ⟨n + 1, hn⟩) = 1#1 := fun h' => ht ((tail_iff ⟨n + 1, hn⟩).mp h')
        rw [show held m dev (n + 1) hn = _ from held_rest m dev ⟨n + 1, hn⟩ hz h h']
        show HeldAt C R ⟨n + 1, hn⟩ (held m dev n _)
        refine ⟨?_, fun hle => ?_, fun hle => ?_⟩
        · rw [ih.keep]
          refine flags_ext fun c hc => ?_
          show Free (Ov C) (1024 * done n c) c ↔ Free (Ov C) (1024 * done (n + 1) c) c
          have : done n c = done (n + 1) c := by
            have : c / 1024 < 5 := by omega
            unfold done; split <;> split <;> omega
          rw [this]
        · exact absurd (show (n + 1) / 5 ≤ (n + 1) % 5 from hle) (by omega)
        · exact absurd (show (n + 1) / 5 ≤ (n + 1) % 5 from hle) (by omega)

end Points

end Cert.KernelIdeal.Nms

end
-- ==== Proof.KernelIdeal.Result.lean ====
/- The kernel's result array at the ideal values: each row of the table times the flag of its survival. -/
module

public import proofs.«01_k».proof.Proof.KernelIdeal.Flags
public import Idealize.ShloMosaic.Lib.Pipeline.ValueKit.Geometry

@[expose] public section

set_option maxRecDepth 16384

noncomputable section

namespace Cert.KernelIdeal.Nms

open Cert.KernelIdeal Cert.KernelIdeal.Gen Cert.Greedy
open Idealize.ShloMosaic Idealize.ShloMosaic.TcCoe Idealize.ShloMosaic.ValueIdx Idealize.ShloMosaic.Tactic
open Idealize.SL.Sem
open Idealize.ShloMosaic.Pipeline (Dat Cfg Window)

variable (m : (ℓ : Loc nD τ sig) → Buf (Elt Ideal) ℓ) (dev : Dev nD) (C R : ℕ → Fin 5 → EReal)

/-- The two tables as the region finds them. -/
structure Tables : Prop where
  cols : ∀ (q : Fin 5) (c : Fin 5120), (V m dev main_v26 : Vec Ideal S5x5120 .f32) (ix2 q c) = C c.val q
  x1 : ∀ r : Fin 5120, (V m dev main_v33 : Vec Ideal S5120x6 .f32) (ix2 r 0) = C r.val 0
  y1 : ∀ r : Fin 5120, (V m dev main_v33 : Vec Ideal S5120x6 .f32) (ix2 r 1) = C r.val 1
  x2 : ∀ r : Fin 5120, (V m dev main_v33 : Vec Ideal S5120x6 .f32) (ix2 r 2) = C r.val 2
  y2 : ∀ r : Fin 5120, (V m dev main_v33 : Vec Ideal S5120x6 .f32) (ix2 r 3) = C r.val 3
  area : ∀ r : Fin 5120, (V m dev main_v33 : Vec Ideal S5120x6 .f32) (ix2 r 5) = C r.val 4
  vals : ∀ (r : Fin 5120) (q : Fin 5), (V m dev main_v33 : Vec Ideal S5120x6 .f32) (ix2 r ⟨q.val, by omega⟩) = R r.val q
  far : ∀ r, C r 2 ≤ ((30000 : ℝ) : EReal)
  nonneg : ∀ r, 0 ≤ C r 4

theorem idx0 : ∀ t : Fin cfg0.N, win0_0.index t = ![0, 0] := (by decide +kernel : ∀ t : Fin grid0.N, win0_0.index t = ![0, 0])
theorem idx1 : ∀ t : Fin cfg0.N, win0_1.index t = ![t.val / 5, 0] := (by decide +kernel : ∀ t : Fin grid0.N, win0_1.index t = ![t.val / 5, 0])
theorem idx2 : ∀ t : Fin cfg0.N, win0_2.index t = ![t.val / 5, 0] := (by decide +kernel : ∀ t : Fin grid0.N, win0_2.index t = ![t.val / 5, 0])

theorem blk0_apply (t : Fin cfg0.N) (q : Fin 5) (c : Fin 5120) :
    (iblk m dev 0 t : Vec Ideal S5x5120 .f32) (ix2 q c) = (V m dev main_v26 : Vec Ideal S5x5120 .f32) (ix2 q c) := by
  refine congrArg (V m dev main_v26 : Vec Ideal S5x5120 .f32) (funext fun a => Fin.ext ?_)
  match a with
  | ⟨0, _⟩ => show win0_0.index t 0 * 5 + 1 * q.val = q.val; rw [idx0]; show 0 * 5 + 1 * q.val = q.val; omega
  | ⟨1, _⟩ => show win0_0.index t 1 * 5120 + 1 * c.val = c.val; rw [idx0]; show 0 * 5120 + 1 * c.val = c.val; omega

theorem blk1_apply (t : Fin cfg0.N) (r : Fin 1024) (q : Fin 6) (hb : 1024 * (t.val / 5) + r.val < 5120) :
    (iblk m dev 1 t : Vec Ideal S1024x6 .f32) (ix2 r q) = (V m dev main_v33 : Vec Ideal S5120x6 .f32) (ix2 ⟨1024 * (t.val / 5) + r.val, hb⟩ q) := by
  refine congrArg (V m dev main_v33 : Vec Ideal S5120x6 .f32) (funext fun a => Fin.ext ?_)
  match a with
  | ⟨0, _⟩ => show win0_1.index t 0 * 1024 + 1 * r.val = 1024 * (t.val / 5) + r.val; rw [idx1]; show t.val / 5 * 1024 + 1 * r.val = _; omega
  | ⟨1, _⟩ => show win0_1.index t 1 * 6 + 1 * q.val = q.val; rw [idx1]; show 0 * 6 + 1 * q.val = q.val; omega

variable {m dev C R} (H : Tables m dev C R)
include H

theorem Tables.holds : Holds m dev C R := by
  have hb : ∀ (t : Fin cfg0.N) (r : Fin 1024), 1024 * (t.val / 5) + r.val < 5120 := fun t r => by
    have hN : t.val < 25 := lt_of_lt_of_eq t.isLt (show cfg0.N = 25 from N_0)
    have := r.isLt; omega
  exact {
    cols := fun t q c => (blk0_apply m dev t q c).trans (H.cols q c)
    rows := fun t => {
      x1 := fun r => (blk1_apply m dev t r 0 (hb t r)).trans (H.x1 _)
      y1 := fun r => (blk1_apply m dev t r 1 (hb t r)).trans (H.y1 _)
      x2 := fun r => (blk1_apply m dev t r 2 (hb t r)).trans (H.x2 _)
      y2 := fun r => (blk1_apply m dev t r 3 (hb t r)).trans (H.y2 _)
      area := fun r => (blk1_apply m dev t r 5 (hb t r)).trans (H.area _) }
    vals := fun t r q => by
      refine Eq.trans (congrArg (iblk m dev 1 t : Vec Ideal S1024x6 .f32) (?_ : _ = ix2 r (⟨q.val, by omega⟩ : Fin 6)))
        ((blk1_apply m dev t r ⟨q.val, by omega⟩ (hb t r)).trans (H.vals _ q))
      funext a
      refine Fin.ext ?_
      match a with
      | ⟨0, _⟩ => show 0 + 1 * r.val = r.val; omega
      | ⟨1, _⟩ => show 0 + 1 * q.val = q.val; omega
    far := H.far
    area := H.nonneg }

/-- The result array after the run. -/
theorem Tables.final : (dats m 0 dev).arrAt 2 cfg0.N
    = (fun j : S5120x5.Idx => R (j 0).val (j 1) * flag (Kept (Ov C) (j 0).val) : Vec Ideal S5120x5 .f32) := by
  refine (dats m 0 dev).arrAt_eq_of_covers 2 _ (by decide +kernel) fun t hf y => ?_
  have h4 := (flush0_2 t).mp hf
  have hN : t.val < 25 := lt_of_lt_of_eq t.isLt (show cfg0.N = 25 from N_0)
  blk_simp
  rw [after_2]
  have hh := (held_at H.holds t.val t.isLt).out (by show t.val / 5 ≤ t.val % 5; omega) (y 0) (y 1)
  have hy : y = ix2 (y 0) (y 1) := eq_ix2 (n0 := 1024) (n1 := 5) y
  refine (congrArg (held m dev t.val t.isLt).2.2 hy).trans (hh.trans ?_)
  have e0 : win0_2.index t 0 * 1024 + (y 0).val = 1024 * (t.val / 5) + (y 0).val := by
    rw [idx2]; show t.val / 5 * 1024 + (y 0).val = _; omega
  have e1 : (win0_2.blk t).view.emb y 1 = y 1 := Fin.ext (by
    show win0_2.index t 1 * 5 + 1 * (y 1).val = (y 1).val
    rw [idx2]; show 0 * 5 + 1 * (y 1).val = _; omega)
  rw [e0, e1]

/-- The rows returned. -/
theorem Tables.returned : Pipeline.afterTail₀ cfgs (dats m) 0 (V0 m) [hostOps1] dev main_v35
    = (fun j : S5000x5.Idx => R (j 0).val (j 1) * flag (Kept (Ov C) (j 0).val) : Vec Ideal S5000x5 .f32) := by
  have hA : Pipeline.withArrays spec0 dev (V0 m dev) (fun w => (dats m 0 dev).arrAt w cfg0.N) main_v34 = (dats m 0 dev).arrAt 2 cfg0.N :=
    Pipeline.withArrays_arr spec0 (by decide) dev (V0 m dev) (fun w => (dats m 0 dev).arrAt w cfg0.N) 2
  refine (?_ : _ = extractStridedSlice S5000x5 ![0, 0] (Pipeline.withArrays spec0 dev (V0 m dev) (fun w => (dats m 0 dev).arrAt w cfg0.N) main_v34 : Vec Ideal S5120x5 .f32) slices_S5120x5_S5000x5_0_0).trans ?_
  · unfold Pipeline.afterTail₀
    show StableHlo.after hostOps1 _ _ = _
    after_results
  · rw [hA, H.final]
    funext j
    exact extractStridedSlice_apply (t := S5000x5) ![0, 0] _ slices_S5120x5_S5000x5_0_0 j (ix2 ⟨(j 0).val, by have := (j 0).isLt; exact lt_trans this (by decide)⟩ (j 1))
      (fun a => match a with | ⟨0, _⟩ => (Nat.zero_add _).symm | ⟨1, _⟩ => (Nat.zero_add _).symm)

end Cert.KernelIdeal.Nms

end
-- ==== Proof.Math.Table.lean ====
/- A table of sorted rows: four coordinates and a last entry, zero past the last row. -/
module

public import Idealize.ShloMosaic.Lib.ValueIdx
public import Idealize.ShloMosaic.Lib.SortFacts
public import Idealize.ShloMosaic.Lib.Pipeline.Value
public import Idealize.ShloMosaic.Lib.ValueLayoutCasts

@[expose] public section

noncomputable section

namespace Cert.Greedy

open Idealize.ShloMosaic Idealize.ShloMosaic.ValueIdx

/-- Row `r` of a table: the coordinates `b r`, then `w r`. -/
def table (b : Fin 5000 → Fin 4 → EReal) (w : Fin 5000 → EReal) (r : ℕ) (q : Fin 5) : EReal :=
  if h : r < 5000 then (if hq : q.val < 4 then b ⟨r, h⟩ ⟨q.val, hq⟩ else w ⟨r, h⟩) else 0

theorem table_coord (b : Fin 5000 → Fin 4 → EReal) (w : Fin 5000 → EReal) (r : ℕ) (q : Fin 4) :
    table b w r ⟨q.val, by omega⟩ = if h : r < 5000 then b ⟨r, h⟩ q else 0 := by
  unfold table
  by_cases h : r < 5000
  · rw [dif_pos h, dif_pos h]; exact dif_pos q.isLt
  · rw [dif_neg h, dif_neg h]

theorem table_last (b : Fin 5000 → Fin 4 → EReal) (w : Fin 5000 → EReal) (r : ℕ) :
    table b w r 4 = if h : r < 5000 then w ⟨r, h⟩ else 0 := by
  unfold table
  by_cases h : r < 5000
  · rw [dif_pos h, dif_pos h]; exact dif_neg (by decide)
  · rw [dif_neg h, dif_neg h]

/-- The area of a box. -/
def area (b : Fin 4 → EReal) : EReal := (b 2 - b 0) * (b 3 - b 1)

/-- A column of one entry a row as a vector. -/
theorem column_apply {α : Type} {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i 0) :=
  shapeCast_apply x h _ _ (by
    rw [Shape.rowMajor_val_two, Shape.rowMajor_val_one]
    show i.val * 1 + 0 = i.val
    rw [Nat.mul_one, Nat.add_zero])

/-- One column of a table of boxes as a vector. -/
theorem coord_apply {α : Type} {a b : ℕ} (x : (⟨2, ![a, b]⟩ : Shape).Idx → α) (o : ℕ) (h : (⟨2, ![a, b]⟩ : Shape).Slices ![0, o] ⟨2, ![a, 1]⟩)
    (hc : (⟨2, ![a, 1]⟩ : Shape).ShapeCasts ⟨1, ![a]⟩) (k : Fin a) (ho : o < b) :
    shapeCast ⟨1, ![a]⟩ (extractStridedSlice ⟨2, ![a, 1]⟩ ![0, o] x h) hc (ix1 k) = x (ix2 k ⟨o, ho⟩) :=
  (column_apply _ hc k).trans (extractStridedSlice_apply ![0, o] x h (ix2 k (0 : Fin 1)) (ix2 k ⟨o, ho⟩)
    (fun a => match a with | ⟨0, _⟩ => (Nat.zero_add _).symm | ⟨1, _⟩ => rfl))

/-- A vector padded with zeros. -/
theorem pad_apply {n p t : ℕ} (x : (⟨1, ![n]⟩ : Shape).Idx → EReal) (z : (⟨1, ![p]⟩ : Shape).Idx → EReal) (hz : ∀ k, z k = 0)
    (h : Shape.Concatenates [⟨1, ![n]⟩, ⟨1, ![p]⟩] ⟨1, ![t]⟩ 0) (ht : t = n + p) (r : Fin t) :
    concatenate ⟨1, ![t]⟩ 0 [⟨⟨1, ![n]⟩, x⟩, ⟨⟨1, ![p]⟩, z⟩] h (ix1 r) = if hr : r.val < n then x (ix1 ⟨r.val, hr⟩) else 0 := by
  by_cases hr : r.val < n
  · rw [dif_pos hr]
    exact concatenate_pair_apply_left (t := ⟨1, ![t]⟩) 0 x z h (ix1 r) rfl (ix1 ⟨r.val, hr⟩) (fun b => match b with | ⟨0, _⟩ => rfl)
  · rw [dif_neg hr]
    have hb : r.val - n < p := by have := r.isLt; omega
    refine (concatenate_pair_apply_right (t := ⟨1, ![t]⟩) 0 x z h (ix1 r) rfl rfl (ix1 ⟨r.val - n, hb⟩) (fun b hb => absurd (Subsingleton.elim _ _) hb) ?_).trans (hz _)
    show r.val - n + n = r.val
    omega

/-- A vector sorted along its axis: read through one self-map of the positions. -/
theorem sortBy_apply {n : ℕ} {ι α : Type} (cmp : ι → ι → BitVec 1) (rows : (⟨1, ![n]⟩ : Shape).Idx → ι) (x : (⟨1, ![n]⟩ : Shape).Idx → α)
    (j : Fin n) : Host.sortBy ⟨1, ![n]⟩ 0 cmp rows x (ix1 j)
      = x (ix1 (sortedFrom (fun k k' => cmp (rows (ix1 k)) (rows (ix1 k')) == 1#1) j)) := by
  have hal : ∀ k : Fin n, (ix1 j : (⟨1, ![n]⟩ : Shape).Idx).along (0 : Fin 1) k = ix1 k := fun k => by
    rw [Shape.Idx.along_rank1]; funext a; match a with | ⟨0, _⟩ => rfl
  unfold Host.sortBy
  rw [dif_pos (show 0 < (⟨1, ![n]⟩ : Shape).rank from Nat.one_pos)]
  refine congrArg x ((hal _).trans (congrArg ix1 ?_))
  exact congrArg (fun B : Fin n → Fin n → Bool => sortedFrom B j)
    (funext fun k => funext fun k' => congrArg₂ (fun a b => cmp (rows a) (rows b) == 1#1) (hal k) (hal k'))

end Cert.Greedy

end
-- ==== Proof.KernelIdeal.Host.lean ====
/- The tables the region finds, in terms of the sorted boxes. -/
module

public import proofs.«01_k».proof.Proof.KernelIdeal.Result
public import proofs.«01_k».proof.Proof.Math.Table

@[expose] public section

set_option maxRecDepth 16384

noncomputable section

namespace Cert.KernelIdeal.Nms

open Cert.KernelIdeal Cert.KernelIdeal.Gen Cert.Greedy
open Idealize.ShloMosaic Idealize.ShloMosaic.TcCoe Idealize.ShloMosaic.ValueIdx Idealize.ShloMosaic.Tactic
open Idealize.SL.Sem

variable (m : (ℓ : Loc nD τ sig) → Buf (Elt Ideal) ℓ) (dev : Dev nD)

/-- The boxes and the scores given. -/
abbrev boxes : Vec Ideal S5000x4 .f32 := m ((dev : Thread nD τ).loc main_arg0)
abbrev scores : Vec Ideal S5000 .f32 := m ((dev : Thread nD τ).loc main_arg1)

/-- The order of the boxes by falling score. -/
def order (s : Fin 5000 → EReal) : Fin 5000 → Fin 5000 :=
  sortedFrom fun k k' => comparator_f32_f32_f32_f32_f32_d0 (F := Ideal) (-s k, 0, 0, 0, 0) (-s k', 0, 0, 0, 0) == 1#1

abbrev pos : Fin 5000 → Fin 5000 := order fun k => scores m dev (ix1 k)
/-- The sorted boxes and scores. -/
abbrev box (r : Fin 5000) (q : Fin 4) : EReal := boxes m dev (ix2 (pos m dev r) q)
abbrev score (r : Fin 5000) : EReal := scores m dev (ix1 (pos m dev r))

/-- A buffer as the region finds it. -/
theorem V_eq (b : Ref sig .tc) : V m dev b = StableHlo.after hostOps0 (fun b => m (dev, b)) (Proc.devRef .tc b) := rfl

/-- The buffers the sort reads. -/
def W : Valuation τ sig (Elt Ideal) := StableHlo.after (hostOps0.take 9) (fun b => m (dev, b))

theorem V_cut (b : Ref sig .tc) : V m dev b = StableHlo.after (hostOps0.drop 9) (W m dev) (Proc.devRef .tc b) := by
  unfold W
  rw [← StableHlo.after_append, List.take_append_drop, V_eq]

theorem W_scores : (W m dev main_v0 : Vec Ideal S5000 .f32) = (Host.negf (scores m dev : FVec Ideal S5000 .f32) : FVec Ideal S5000 .f32) := by
  unfold W
  simp only [hostOps0, List.take_succ_cons, List.take_zero]
  after_results

theorem W_coord0 (k : Fin 5000) : (W m dev main_v2 : Vec Ideal S5000 .f32) (ix1 k) = boxes m dev (ix2 k 0) := by
  refine (congrFun (?_ : (W m dev main_v2 : Vec Ideal S5000 .f32) = shapeCast S5000 (extractStridedSlice S5000x1 ![0, 0] (boxes m dev) slices_S5000x4_S5000x1_0_0) shapeCasts_S5000x1_S5000) (ix1 k)).trans
    (coord_apply (boxes m dev) 0 slices_S5000x4_S5000x1_0_0 shapeCasts_S5000x1_S5000 k (by decide))
  unfold W
  simp only [hostOps0, List.take_succ_cons, List.take_zero]
  after_results
  rfl

theorem W_coord1 (k : Fin 5000) : (W m dev main_v4 : Vec Ideal S5000 .f32) (ix1 k) = boxes m dev (ix2 k 1) := by
  refine (congrFun (?_ : (W m dev main_v4 : Vec Ideal S5000 .f32) = shapeCast S5000 (extractStridedSlice S5000x1 ![0, 1] (boxes m dev) slices_S5000x4_S5000x1_0_1) shapeCasts_S5000x1_S5000) (ix1 k)).trans
    (coord_apply (boxes m dev) 1 slices_S5000x4_S5000x1_0_1 shapeCasts_S5000x1_S5000 k (by decide))
  unfold W
  simp only [hostOps0, List.take_succ_cons, List.take_zero]
  after_results
  rfl

theorem W_coord2 (k : Fin 5000) : (W m dev main_v6 : Vec Ideal S5000 .f32) (ix1 k) = boxes m dev (ix2 k 2) := by
  refine (congrFun (?_ : (W m dev main_v6 : Vec Ideal S5000 .f32) = shapeCast S5000 (extractStridedSlice S5000x1 ![0, 2] (boxes m dev) slices_S5000x4_S5000x1_0_2) shapeCasts_S5000x1_S5000) (ix1 k)).trans
    (coord_apply (boxes m dev) 2 slices_S5000x4_S5000x1_0_2 shapeCasts_S5000x1_S5000 k (by decide))
  unfold W
  simp only [hostOps0, List.take_succ_cons, List.take_zero]
  after_results
  rfl

theorem W_coord3 (k : Fin 5000) : (W m dev main_v8 : Vec Ideal S5000 .f32) (ix1 k) = boxes m dev (ix2 k 3) := by
  refine (congrFun (?_ : (W m dev main_v8 : Vec Ideal S5000 .f32) = shapeCast S5000 (extractStridedSlice S5000x1 ![0, 3] (boxes m dev) slices_S5000x4_S5000x1_0_3) shapeCasts_S5000x1_S5000) (ix1 k)).trans
    (coord_apply (boxes m dev) 3 slices_S5000x4_S5000x1_0_3 shapeCasts_S5000x1_S5000 k (by decide))
  unfold W
  simp only [hostOps0, List.take_succ_cons, List.take_zero]
  after_results
  rfl

theorem V_v9_0 (k : Fin 5000) : (V m dev main_v9_0 : Vec Ideal S5000 .f32) (ix1 k) = -score m dev k := by
  have e : (V m dev main_v9_0 : Vec Ideal S5000 .f32) = Host.sortBy S5000 0 (comparator_f32_f32_f32_f32_f32_d0 (F := Ideal))
      (fun j => ((W m dev main_v0 : Vec Ideal S5000 .f32) j, (W m dev main_v2 : Vec Ideal S5000 .f32) j, (W m dev main_v4 : Vec Ideal S5000 .f32) j, (W m dev main_v6 : Vec Ideal S5000 .f32) j, (W m dev main_v8 : Vec Ideal S5000 .f32) j)) (W m dev main_v0 : Vec Ideal S5000 .f32) := by
    rw [V_cut]
    simp only [hostOps0, List.drop_succ_cons, List.drop_zero]
    after_results
    rfl
  rw [e, W_scores]
  exact sortBy_apply _ _ _ k

theorem V_v9_1 (k : Fin 5000) : (V m dev main_v9_1 : Vec Ideal S5000 .f32) (ix1 k) = box m dev k 0 := by
  have e : (V m dev main_v9_1 : Vec Ideal S5000 .f32) = Host.sortBy S5000 0 (comparator_f32_f32_f32_f32_f32_d0 (F := Ideal))
      (fun j => ((W m dev main_v0 : Vec Ideal S5000 .f32) j, (W m dev main_v2 : Vec Ideal S5000 .f32) j, (W m dev main_v4 : Vec Ideal S5000 .f32) j, (W m dev main_v6 : Vec Ideal S5000 .f32) j, (W m dev main_v8 : Vec Ideal S5000 .f32) j)) (W m dev main_v2 : Vec Ideal S5000 .f32) := by
    rw [V_cut]
    simp only [hostOps0, List.drop_succ_cons, List.drop_zero]
    after_results
    rfl
  rw [e, W_scores]
  exact (sortBy_apply _ _ _ k).trans (W_coord0 m dev _)

theorem V_v9_2 (k : Fin 5000) : (V m dev main_v9_2 : Vec Ideal S5000 .f32) (ix1 k) = box m dev k 1 := by
  have e : (V m dev main_v9_2 : Vec Ideal S5000 .f32) = Host.sortBy S5000 0 (comparator_f32_f32_f32_f32_f32_d0 (F := Ideal))
      (fun j => ((W m dev main_v0 : Vec Ideal S5000 .f32) j, (W m dev main_v2 : Vec Ideal S5000 .f32) j, (W m dev main_v4 : Vec Ideal S5000 .f32) j, (W m dev main_v6 : Vec Ideal S5000 .f32) j, (W m dev main_v8 : Vec Ideal S5000 .f32) j)) (W m dev main_v4 : Vec Ideal S5000 .f32) := by
    rw [V_cut]
    simp only [hostOps0, List.drop_succ_cons, List.drop_zero]
    after_results
    rfl
  rw [e, W_scores]
  exact (sortBy_apply _ _ _ k).trans (W_coord1 m dev _)

theorem V_v9_3 (k : Fin 5000) : (V m dev main_v9_3 : Vec Ideal S5000 .f32) (ix1 k) = box m dev k 2 := by
  have e : (V m dev main_v9_3 : Vec Ideal S5000 .f32) = Host.sortBy S5000 0 (comparator_f32_f32_f32_f32_f32_d0 (F := Ideal))
      (fun j => ((W m dev main_v0 : Vec Ideal S5000 .f32) j, (W m dev main_v2 : Vec Ideal S5000 .f32) j, (W m dev main_v4 : Vec Ideal S5000 .f32) j, (W m dev main_v6 : Vec Ideal S5000 .f32) j, (W m dev main_v8 : Vec Ideal S5000 .f32) j)) (W m dev main_v6 : Vec Ideal S5000 .f32) := by
    rw [V_cut]
    simp only [hostOps0, List.drop_succ_cons, List.drop_zero]
    after_results
    rfl
  rw [e, W_scores]
  exact (sortBy_apply _ _ _ k).trans (W_coord2 m dev _)

theorem V_v9_4 (k : Fin 5000) : (V m dev main_v9_4 : Vec Ideal S5000 .f32) (ix1 k) = box m dev k 3 := by
  have e : (V m dev main_v9_4 : Vec Ideal S5000 .f32) = Host.sortBy S5000 0 (comparator_f32_f32_f32_f32_f32_d0 (F := Ideal))
      (fun j => ((W m dev main_v0 : Vec Ideal S5000 .f32) j, (W m dev main_v2 : Vec Ideal S5000 .f32) j, (W m dev main_v4 : Vec Ideal S5000 .f32) j, (W m dev main_v6 : Vec Ideal S5000 .f32) j, (W m dev main_v8 : Vec Ideal S5000 .f32) j)) (W m dev main_v8 : Vec Ideal S5000 .f32) := by
    rw [V_cut]
    simp only [hostOps0, List.drop_succ_cons, List.drop_zero]
    after_results
    rfl
  rw [e, W_scores]
  exact (sortBy_apply _ _ _ k).trans (W_coord3 m dev _)

theorem V_v10 (k : Fin 5000) : (V m dev main_v10 : Vec Ideal S5000 .f32) (ix1 k) = score m dev k := by
  have e : (V m dev main_v10 : Vec Ideal S5000 .f32) = (Host.negf (V m dev main_v9_0 : FVec Ideal S5000 .f32) : FVec Ideal S5000 .f32) := by
    rw [V_eq, V_eq]
    after_results
  rw [e]
  exact (congrArg (fun x : EReal => -x) (V_v9_0 m dev k)).trans (neg_neg _)

theorem V_v13 (k : Fin 5000) : (V m dev main_v13 : Vec Ideal S5000 .f32) (ix1 k) = area (box m dev k) := by
  have e : (V m dev main_v13 : Vec Ideal S5000 .f32) = mulf (F := Ideal) (φ := .f32) (subf (F := Ideal) (φ := .f32) (V m dev main_v9_3 : Vec Ideal S5000 .f32) (V m dev main_v9_1 : Vec Ideal S5000 .f32)) (subf (F := Ideal) (φ := .f32) (V m dev main_v9_4 : Vec Ideal S5000 .f32) (V m dev main_v9_2 : Vec Ideal S5000 .f32)) := by
    rw [V_eq, V_eq, V_eq, V_eq, V_eq]
    after_results
  rw [e]
  exact congrArg₂ (fun a b : EReal => a * b) (congrArg₂ (fun a b : EReal => a - b) (V_v9_3 m dev k) (V_v9_1 m dev k))
    (congrArg₂ (fun a b : EReal => a - b) (V_v9_4 m dev k) (V_v9_2 m dev k))

theorem V_v14 (k : S120.Idx) : (V m dev main_v14 : Vec Ideal S120 .f32) k = (0 : EReal) := by
  have e : (V m dev main_v14 : Vec Ideal S120 .f32) = broadcastInDim S120 ![] bcast_S_S120 (constant (F := Ideal) S_ .f32 0x00000000#32 : Vec Ideal S_ .f32) := by
    rw [V_eq]
    after_results
  rw [e]
  exact Ideal.ofBits_zero_f32

theorem V_v15 (r : Fin 5120) : (V m dev main_v15 : Vec Ideal S5120 .f32) (ix1 r) = if h : r.val < 5000 then box m dev ⟨r.val, h⟩ 0 else 0 := by
  have e : (V m dev main_v15 : Vec Ideal S5120 .f32)
      = concatenate S5120 0 [⟨S5000, (V m dev main_v9_1 : Vec Ideal S5000 .f32)⟩, ⟨S120, (V m dev main_v14 : Vec Ideal S120 .f32)⟩] concatenates_S5000_S120_S5120_d0 := by
    rw [V_eq, V_eq, V_eq]
    after_results
  rw [e]
  exact (pad_apply _ _ (V_v14 m dev) concatenates_S5000_S120_S5120_d0 rfl r).trans (dite_congr rfl (fun h => V_v9_1 m dev ⟨r.val, h⟩) (fun _ => rfl))

theorem V_v16 (r : Fin 5120) : (V m dev main_v16 : Vec Ideal S5120 .f32) (ix1 r) = if h : r.val < 5000 then box m dev ⟨r.val, h⟩ 1 else 0 := by
  have e : (V m dev main_v16 : Vec Ideal S5120 .f32)
      = concatenate S5120 0 [⟨S5000, (V m dev main_v9_2 : Vec Ideal S5000 .f32)⟩, ⟨S120, (V m dev main_v14 : Vec Ideal S120 .f32)⟩] concatenates_S5000_S120_S5120_d0 := by
    rw [V_eq, V_eq, V_eq]
    after_results
  rw [e]
  exact (pad_apply _ _ (V_v14 m dev) concatenates_S5000_S120_S5120_d0 rfl r).trans (dite_congr rfl (fun h => V_v9_2 m dev ⟨r.val, h⟩) (fun _ => rfl))

theorem V_v17 (r : Fin 5120) : (V m dev main_v17 : Vec Ideal S5120 .f32) (ix1 r) = if h : r.val < 5000 then box m dev ⟨r.val, h⟩ 2 else 0 := by
  have e : (V m dev main_v17 : Vec Ideal S5120 .f32)
      = concatenate S5120 0 [⟨S5000, (V m dev main_v9_3 : Vec Ideal S5000 .f32)⟩, ⟨S120, (V m dev main_v14 : Vec Ideal S120 .f32)⟩] concatenates_S5000_S120_S5120_d0 := by
    rw [V_eq, V_eq, V_eq]
    after_results
  rw [e]
  exact (pad_apply _ _ (V_v14 m dev) concatenates_S5000_S120_S5120_d0 rfl r).trans (dite_congr rfl (fun h => V_v9_3 m dev ⟨r.val, h⟩) (fun _ => rfl))

theorem V_v18 (r : Fin 5120) : (V m dev main_v18 : Vec Ideal S5120 .f32) (ix1 r) = if h : r.val < 5000 then box m dev ⟨r.val, h⟩ 3 else 0 := by
  have e : (V m dev main_v18 : Vec Ideal S5120 .f32)
      = concatenate S5120 0 [⟨S5000, (V m dev main_v9_4 : Vec Ideal S5000 .f32)⟩, ⟨S120, (V m dev main_v14 : Vec Ideal S120 .f32)⟩] concatenates_S5000_S120_S5120_d0 := by
    rw [V_eq, V_eq, V_eq]
    after_results
  rw [e]
  exact (pad_apply _ _ (V_v14 m dev) concatenates_S5000_S120_S5120_d0 rfl r).trans (dite_congr rfl (fun h => V_v9_4 m dev ⟨r.val, h⟩) (fun _ => rfl))

theorem V_v19 (r : Fin 5120) : (V m dev main_v19 : Vec Ideal S5120 .f32) (ix1 r) = if h : r.val < 5000 then score m dev ⟨r.val, h⟩ else 0 := by
  have e : (V m dev main_v19 : Vec Ideal S5120 .f32)
      = concatenate S5120 0 [⟨S5000, (V m dev main_v10 : Vec Ideal S5000 .f32)⟩, ⟨S120, (V m dev main_v14 : Vec Ideal S120 .f32)⟩] concatenates_S5000_S120_S5120_d0 := by
    rw [V_eq, V_eq, V_eq]
    after_results
  rw [e]
  exact (pad_apply _ _ (V_v14 m dev) concatenates_S5000_S120_S5120_d0 rfl r).trans (dite_congr rfl (fun h => V_v10 m dev ⟨r.val, h⟩) (fun _ => rfl))

theorem V_v20 (r : Fin 5120) : (V m dev main_v20 : Vec Ideal S5120 .f32) (ix1 r) = if h : r.val < 5000 then area (box m dev ⟨r.val, h⟩) else 0 := by
  have e : (V m dev main_v20 : Vec Ideal S5120 .f32)
      = concatenate S5120 0 [⟨S5000, (V m dev main_v13 : Vec Ideal S5000 .f32)⟩, ⟨S120, (V m dev main_v14 : Vec Ideal S120 .f32)⟩] concatenates_S5000_S120_S5120_d0 := by
    rw [V_eq, V_eq, V_eq]
    after_results
  rw [e]
  exact (pad_apply _ _ (V_v14 m dev) concatenates_S5000_S120_S5120_d0 rfl r).trans (dite_congr rfl (fun h => V_v13 m dev ⟨r.val, h⟩) (fun _ => rfl))

theorem asRow_apply (x : Vec Ideal S5120 .f32) (c : Fin 5120) : (broadcastInDim S1x5120 ![1] bcast_S5120_S1x5120_1 x : Vec Ideal S1x5120 .f32) (ix2 (0 : Fin 1) c) = x (ix1 c) :=
  broadcastInDim_apply (s := S5120) ![1] bcast_S5120_S1x5120_1 x (ix2 (0 : Fin 1) c) (ix1 c) (fun a => match a with | ⟨0, _⟩ => rfl)

theorem asCol_apply (x : Vec Ideal S5120 .f32) (c : Fin 5120) : (broadcastInDim S5120x1 ![0] bcast_S5120_S5120x1_0 x : Vec Ideal S5120x1 .f32) (ix2 c (0 : Fin 1)) = x (ix1 c) :=
  broadcastInDim_apply (s := S5120) ![0] bcast_S5120_S5120x1_0 x (ix2 c (0 : Fin 1)) (ix1 c) (fun a => match a with | ⟨0, _⟩ => rfl)

/-- The buffers found before table 26 is put together. -/
def W26 : Valuation τ sig (Elt Ideal) := StableHlo.after (hostOps0.take 31) (fun b => m (dev, b))

theorem V_cut26 (b : Ref sig .tc) : V m dev b = StableHlo.after (hostOps0.drop 31) (W26 m dev) (Proc.devRef .tc b) := by
  unfold W26
  rw [← StableHlo.after_append, List.take_append_drop, V_eq]

theorem W26_v21 (c : Fin 5120) : (W26 m dev main_v21 : Vec Ideal S1x5120 .f32) (ix2 (0 : Fin 1) c) = (V m dev main_v15 : Vec Ideal S5120 .f32) (ix1 c) := by
  have e : (W26 m dev main_v21 : Vec Ideal S1x5120 .f32) = broadcastInDim S1x5120 ![1] bcast_S5120_S1x5120_1 (V m dev main_v15 : Vec Ideal S5120 .f32) := by
    rw [V_eq]
    unfold W26
    simp only [hostOps0, List.take_succ_cons, List.take_zero]
    after_results
  rw [e]
  exact asRow_apply _ c

theorem W26_v22 (c : Fin 5120) : (W26 m dev main_v22 : Vec Ideal S1x5120 .f32) (ix2 (0 : Fin 1) c) = (V m dev main_v16 : Vec Ideal S5120 .f32) (ix1 c) := by
  have e : (W26 m dev main_v22 : Vec Ideal S1x5120 .f32) = broadcastInDim S1x5120 ![1] bcast_S5120_S1x5120_1 (V m dev main_v16 : Vec Ideal S5120 .f32) := by
    rw [V_eq]
    unfold W26
    simp only [hostOps0, List.take_succ_cons, List.take_zero]
    after_results
  rw [e]
  exact asRow_apply _ c

theorem W26_v23 (c : Fin 5120) : (W26 m dev main_v23 : Vec Ideal S1x5120 .f32) (ix2 (0 : Fin 1) c) = (V m dev main_v17 : Vec Ideal S5120 .f32) (ix1 c) := by
  have e : (W26 m dev main_v23 : Vec Ideal S1x5120 .f32) = broadcastInDim S1x5120 ![1] bcast_S5120_S1x5120_1 (V m dev main_v17 : Vec Ideal S5120 .f32) := by
    rw [V_eq]
    unfold W26
    simp only [hostOps0, List.take_succ_cons, List.take_zero]
    after_results
  rw [e]
  exact asRow_apply _ c

theorem W26_v24 (c : Fin 5120) : (W26 m dev main_v24 : Vec Ideal S1x5120 .f32) (ix2 (0 : Fin 1) c) = (V m dev main_v18 : Vec Ideal S5120 .f32) (ix1 c) := by
  have e : (W26 m dev main_v24 : Vec Ideal S1x5120 .f32) = broadcastInDim S1x5120 ![1] bcast_S5120_S1x5120_1 (V m dev main_v18 : Vec Ideal S5120 .f32) := by
    rw [V_eq]
    unfold W26
    simp only [hostOps0, List.take_succ_cons, List.take_zero]
    after_results
  rw [e]
  exact asRow_apply _ c

theorem W26_v25 (c : Fin 5120) : (W26 m dev main_v25 : Vec Ideal S1x5120 .f32) (ix2 (0 : Fin 1) c) = (V m dev main_v20 : Vec Ideal S5120 .f32) (ix1 c) := by
  have e : (W26 m dev main_v25 : Vec Ideal S1x5120 .f32) = broadcastInDim S1x5120 ![1] bcast_S5120_S1x5120_1 (V m dev main_v20 : Vec Ideal S5120 .f32) := by
    rw [V_eq]
    unfold W26
    simp only [hostOps0, List.take_succ_cons, List.take_zero]
    after_results
  rw [e]
  exact asRow_apply _ c

/-- Rows put together. -/
theorem join26_0 (x0 x1 x2 x3 x4 : Vec Ideal S1x5120 .f32) (c : Fin 5120) :
    (concatenate S5x5120 0 [⟨S1x5120, x0⟩, ⟨S1x5120, x1⟩, ⟨S1x5120, x2⟩, ⟨S1x5120, x3⟩, ⟨S1x5120, x4⟩] concatenates_S1x5120_S1x5120_S1x5120_S1x5120_S1x5120_S5x5120_d0 : Vec Ideal S5x5120 .f32) (ix2 0 c) = x0 (ix2 (0 : Fin 1) c) :=
  concatenate_apply_piece (t := S5x5120) 0 [⟨S1x5120, x0⟩, ⟨S1x5120, x1⟩, ⟨S1x5120, x2⟩, ⟨S1x5120, x3⟩, ⟨S1x5120, x4⟩] concatenates_S1x5120_S1x5120_S1x5120_S1x5120_S1x5120_S5x5120_d0 (ix2 0 c) 0 (show 0 < 5 by decide) S1x5120 x0 rfl rfl 0 rfl (ix2 (0 : Fin 1) c)
    (fun b hb => match b with
      | ⟨0, _⟩ => absurd rfl hb
      | ⟨1, _⟩ => rfl) rfl

theorem join26_1 (x0 x1 x2 x3 x4 : Vec Ideal S1x5120 .f32) (c : Fin 5120) :
    (concatenate S5x5120 0 [⟨S1x5120, x0⟩, ⟨S1x5120, x1⟩, ⟨S1x5120, x2⟩, ⟨S1x5120, x3⟩, ⟨S1x5120, x4⟩] concatenates_S1x5120_S1x5120_S1x5120_S1x5120_S1x5120_S5x5120_d0 : Vec Ideal S5x5120 .f32) (ix2 1 c) = x1 (ix2 (0 : Fin 1) c) :=
  concatenate_apply_piece (t := S5x5120) 0 [⟨S1x5120, x0⟩, ⟨S1x5120, x1⟩, ⟨S1x5120, x2⟩, ⟨S1x5120, x3⟩, ⟨S1x5120, x4⟩] concatenates_S1x5120_S1x5120_S1x5120_S1x5120_S1x5120_S5x5120_d0 (ix2 1 c) 1 (show 1 < 5 by decide) S1x5120 x1 rfl rfl 1 rfl (ix2 (0 : Fin 1) c)
    (fun b hb => match b with
      | ⟨0, _⟩ => absurd rfl hb
      | ⟨1, _⟩ => rfl) rfl

theorem join26_2 (x0 x1 x2 x3 x4 : Vec Ideal S1x5120 .f32) (c : Fin 5120) :
    (concatenate S5x5120 0 [⟨S1x5120, x0⟩, ⟨S1x5120, x1⟩, ⟨S1x5120, x2⟩, ⟨S1x5120, x3⟩, ⟨S1x5120, x4⟩] concatenates_S1x5120_S1x5120_S1x5120_S1x5120_S1x5120_S5x5120_d0 : Vec Ideal S5x5120 .f32) (ix2 2 c) = x2 (ix2 (0 : Fin 1) c) :=
  concatenate_apply_piece (t := S5x5120) 0 [⟨S1x5120, x0⟩, ⟨S1x5120, x1⟩, ⟨S1x5120, x2⟩, ⟨S1x5120, x3⟩, ⟨S1x5120, x4⟩] concatenates_S1x5120_S1x5120_S1x5120_S1x5120_S1x5120_S5x5120_d0 (ix2 2 c) 2 (show 2 < 5 by decide) S1x5120 x2 rfl rfl 2 rfl (ix2 (0 : Fin 1) c)
    (fun b hb => match b with
      | ⟨0, _⟩ => absurd rfl hb
      | ⟨1, _⟩ => rfl) rfl

theorem join26_3 (x0 x1 x2 x3 x4 : Vec Ideal S1x5120 .f32) (c : Fin 5120) :
    (concatenate S5x5120 0 [⟨S1x5120, x0⟩, ⟨S1x5120, x1⟩, ⟨S1x5120, x2⟩, ⟨S1x5120, x3⟩, ⟨S1x5120, x4⟩] concatenates_S1x5120_S1x5120_S1x5120_S1x5120_S1x5120_S5x5120_d0 : Vec Ideal S5x5120 .f32) (ix2 3 c) = x3 (ix2 (0 : Fin 1) c) :=
  concatenate_apply_piece (t := S5x5120) 0 [⟨S1x5120, x0⟩, ⟨S1x5120, x1⟩, ⟨S1x5120, x2⟩, ⟨S1x5120, x3⟩, ⟨S1x5120, x4⟩] concatenates_S1x5120_S1x5120_S1x5120_S1x5120_S1x5120_S5x5120_d0 (ix2 3 c) 3 (show 3 < 5 by decide) S1x5120 x3 rfl rfl 3 rfl (ix2 (0 : Fin 1) c)
    (fun b hb => match b with
      | ⟨0, _⟩ => absurd rfl hb
      | ⟨1, _⟩ => rfl) rfl

theorem join26_4 (x0 x1 x2 x3 x4 : Vec Ideal S1x5120 .f32) (c : Fin 5120) :
    (concatenate S5x5120 0 [⟨S1x5120, x0⟩, ⟨S1x5120, x1⟩, ⟨S1x5120, x2⟩, ⟨S1x5120, x3⟩, ⟨S1x5120, x4⟩] concatenates_S1x5120_S1x5120_S1x5120_S1x5120_S1x5120_S5x5120_d0 : Vec Ideal S5x5120 .f32) (ix2 4 c) = x4 (ix2 (0 : Fin 1) c) :=
  concatenate_apply_piece (t := S5x5120) 0 [⟨S1x5120, x0⟩, ⟨S1x5120, x1⟩, ⟨S1x5120, x2⟩, ⟨S1x5120, x3⟩, ⟨S1x5120, x4⟩] concatenates_S1x5120_S1x5120_S1x5120_S1x5120_S1x5120_S5x5120_d0 (ix2 4 c) 4 (show 4 < 5 by decide) S1x5120 x4 rfl rfl 4 rfl (ix2 (0 : Fin 1) c)
    (fun b hb => match b with
      | ⟨0, _⟩ => absurd rfl hb
      | ⟨1, _⟩ => rfl) rfl

theorem V_v26_eq : (V m dev main_v26 : Vec Ideal S5x5120 .f32) = concatenate S5x5120 0 [⟨S1x5120, (W26 m dev main_v21 : Vec Ideal S1x5120 .f32)⟩, ⟨S1x5120, (W26 m dev main_v22 : Vec Ideal S1x5120 .f32)⟩, ⟨S1x5120, (W26 m dev main_v23 : Vec Ideal S1x5120 .f32)⟩, ⟨S1x5120, (W26 m dev main_v24 : Vec Ideal S1x5120 .f32)⟩, ⟨S1x5120, (W26 m dev main_v25 : Vec Ideal S1x5120 .f32)⟩] concatenates_S1x5120_S1x5120_S1x5120_S1x5120_S1x5120_S5x5120_d0 := by
  rw [V_cut26]
  simp only [hostOps0, List.drop_succ_cons, List.drop_zero]
  after_results
  rfl

theorem V_v26_0 (c : Fin 5120) : (V m dev main_v26 : Vec Ideal S5x5120 .f32) (ix2 0 c) = (V m dev main_v15 : Vec Ideal S5120 .f32) (ix1 c) := by
  rw [V_v26_eq]
  exact (join26_0 _ _ _ _ _ c).trans (W26_v21 m dev c)

theorem V_v26_1 (c : Fin 5120) : (V m dev main_v26 : Vec Ideal S5x5120 .f32) (ix2 1 c) = (V m dev main_v16 : Vec Ideal S5120 .f32) (ix1 c) := by
  rw [V_v26_eq]
  exact (join26_1 _ _ _ _ _ c).trans (W26_v22 m dev c)

theorem V_v26_2 (c : Fin 5120) : (V m dev main_v26 : Vec Ideal S5x5120 .f32) (ix2 2 c) = (V m dev main_v17 : Vec Ideal S5120 .f32) (ix1 c) := by
  rw [V_v26_eq]
  exact (join26_2 _ _ _ _ _ c).trans (W26_v23 m dev c)

theorem V_v26_3 (c : Fin 5120) : (V m dev main_v26 : Vec Ideal S5x5120 .f32) (ix2 3 c) = (V m dev main_v18 : Vec Ideal S5120 .f32) (ix1 c) := by
  rw [V_v26_eq]
  exact (join26_3 _ _ _ _ _ c).trans (W26_v24 m dev c)

theorem V_v26_4 (c : Fin 5120) : (V m dev main_v26 : Vec Ideal S5x5120 .f32) (ix2 4 c) = (V m dev main_v20 : Vec Ideal S5120 .f32) (ix1 c) := by
  rw [V_v26_eq]
  exact (join26_4 _ _ _ _ _ c).trans (W26_v25 m dev c)

/-- The buffers found before table 33 is put together. -/
def W33 : Valuation τ sig (Elt Ideal) := StableHlo.after (hostOps0.take 38) (fun b => m (dev, b))

theorem V_cut33 (b : Ref sig .tc) : V m dev b = StableHlo.after (hostOps0.drop 38) (W33 m dev) (Proc.devRef .tc b) := by
  unfold W33
  rw [← StableHlo.after_append, List.take_append_drop, V_eq]

theorem W33_v27 (c : Fin 5120) : (W33 m dev main_v27 : Vec Ideal S5120x1 .f32) (ix2 c (0 : Fin 1)) = (V m dev main_v15 : Vec Ideal S5120 .f32) (ix1 c) := by
  have e : (W33 m dev main_v27 : Vec Ideal S5120x1 .f32) = broadcastInDim S5120x1 ![0] bcast_S5120_S5120x1_0 (V m dev main_v15 : Vec Ideal S5120 .f32) := by
    rw [V_eq]
    unfold W33
    simp only [hostOps0, List.take_succ_cons, List.take_zero]
    after_results
  rw [e]
  exact asCol_apply _ c

theorem W33_v28 (c : Fin 5120) : (W33 m dev main_v28 : Vec Ideal S5120x1 .f32) (ix2 c (0 : Fin 1)) = (V m dev main_v16 : Vec Ideal S5120 .f32) (ix1 c) := by
  have e : (W33 m dev main_v28 : Vec Ideal S5120x1 .f32) = broadcastInDim S5120x1 ![0] bcast_S5120_S5120x1_0 (V m dev main_v16 : Vec Ideal S5120 .f32) := by
    rw [V_eq]
    unfold W33
    simp only [hostOps0, List.take_succ_cons, List.take_zero]
    after_results
  rw [e]
  exact asCol_apply _ c

theorem W33_v29 (c : Fin 5120) : (W33 m dev main_v29 : Vec Ideal S5120x1 .f32) (ix2 c (0 : Fin 1)) = (V m dev main_v17 : Vec Ideal S5120 .f32) (ix1 c) := by
  have e : (W33 m dev main_v29 : Vec Ideal S5120x1 .f32) = broadcastInDim S5120x1 ![0] bcast_S5120_S5120x1_0 (V m dev main_v17 : Vec Ideal S5120 .f32) := by
    rw [V_eq]
    unfold W33
    simp only [hostOps0, List.take_succ_cons, List.take_zero]
    after_results
  rw [e]
  exact asCol_apply _ c

theorem W33_v30 (c : Fin 5120) : (W33 m dev main_v30 : Vec Ideal S5120x1 .f32) (ix2 c (0 : Fin 1)) = (V m dev main_v18 : Vec Ideal S5120 .f32) (ix1 c) := by
  have e : (W33 m dev main_v30 : Vec Ideal S5120x1 .f32) = broadcastInDim S5120x1 ![0] bcast_S5120_S5120x1_0 (V m dev main_v18 : Vec Ideal S5120 .f32) := by
    rw [V_eq]
    unfold W33
    simp only [hostOps0, List.take_succ_cons, List.take_zero]
    after_results
  rw [e]
  exact asCol_apply _ c

theorem W33_v31 (c : Fin 5120) : (W33 m dev main_v31 : Vec Ideal S5120x1 .f32) (ix2 c (0 : Fin 1)) = (V m dev main_v19 : Vec Ideal S5120 .f32) (ix1 c) := by
  have e : (W33 m dev main_v31 : Vec Ideal S5120x1 .f32) = broadcastInDim S5120x1 ![0] bcast_S5120_S5120x1_0 (V m dev main_v19 : Vec Ideal S5120 .f32) := by
    rw [V_eq]
    unfold W33
    simp only [hostOps0, List.take_succ_cons, List.take_zero]
    after_results
  rw [e]
  exact asCol_apply _ c

theorem W33_v32 (c : Fin 5120) : (W33 m dev main_v32 : Vec Ideal S5120x1 .f32) (ix2 c (0 : Fin 1)) = (V m dev main_v20 : Vec Ideal S5120 .f32) (ix1 c) := by
  have e : (W33 m dev main_v32 : Vec Ideal S5120x1 .f32) = broadcastInDim S5120x1 ![0] bcast_S5120_S5120x1_0 (V m dev main_v20 : Vec Ideal S5120 .f32) := by
    rw [V_eq]
    unfold W33
    simp only [hostOps0, List.take_succ_cons, List.take_zero]
    after_results
  rw [e]
  exact asCol_apply _ c

/-- Columns put together. -/
theorem join33_0 (x0 x1 x2 x3 x4 x5 : Vec Ideal S5120x1 .f32) (c : Fin 5120) :
    (concatenate S5120x6 1 [⟨S5120x1, x0⟩, ⟨S5120x1, x1⟩, ⟨S5120x1, x2⟩, ⟨S5120x1, x3⟩, ⟨S5120x1, x4⟩, ⟨S5120x1, x5⟩] concatenates_S5120x1_S5120x1_S5120x1_S5120x1_S5120x1_S5120x1_S5120x6_d1 : Vec Ideal S5120x6 .f32) (ix2 c 0) = x0 (ix2 c (0 : Fin 1)) :=
  concatenate_apply_piece (t := S5120x6) 1 [⟨S5120x1, x0⟩, ⟨S5120x1, x1⟩, ⟨S5120x1, x2⟩, ⟨S5120x1, x3⟩, ⟨S5120x1, x4⟩, ⟨S5120x1, x5⟩] concatenates_S5120x1_S5120x1_S5120x1_S5120x1_S5120x1_S5120x1_S5120x6_d1 (ix2 c 0) 0 (show 0 < 6 by decide) S5120x1 x0 rfl rfl 0 rfl (ix2 c (0 : Fin 1))
    (fun b hb => match b with
      | ⟨0, _⟩ => rfl
      | ⟨1, _⟩ => absurd rfl hb) rfl

theorem join33_1 (x0 x1 x2 x3 x4 x5 : Vec Ideal S5120x1 .f32) (c : Fin 5120) :
    (concatenate S5120x6 1 [⟨S5120x1, x0⟩, ⟨S5120x1, x1⟩, ⟨S5120x1, x2⟩, ⟨S5120x1, x3⟩, ⟨S5120x1, x4⟩, ⟨S5120x1, x5⟩] concatenates_S5120x1_S5120x1_S5120x1_S5120x1_S5120x1_S5120x1_S5120x6_d1 : Vec Ideal S5120x6 .f32) (ix2 c 1) = x1 (ix2 c (0 : Fin 1)) :=
  concatenate_apply_piece (t := S5120x6) 1 [⟨S5120x1, x0⟩, ⟨S5120x1, x1⟩, ⟨S5120x1, x2⟩, ⟨S5120x1, x3⟩, ⟨S5120x1, x4⟩, ⟨S5120x1, x5⟩] concatenates_S5120x1_S5120x1_S5120x1_S5120x1_S5120x1_S5120x1_S5120x6_d1 (ix2 c 1) 1 (show 1 < 6 by decide) S5120x1 x1 rfl rfl 1 rfl (ix2 c (0 : Fin 1))
    (fun b hb => match b with
      | ⟨0, _⟩ => rfl
      | ⟨1, _⟩ => absurd rfl hb) rfl

theorem join33_2 (x0 x1 x2 x3 x4 x5 : Vec Ideal S5120x1 .f32) (c : Fin 5120) :
    (concatenate S5120x6 1 [⟨S5120x1, x0⟩, ⟨S5120x1, x1⟩, ⟨S5120x1, x2⟩, ⟨S5120x1, x3⟩, ⟨S5120x1, x4⟩, ⟨S5120x1, x5⟩] concatenates_S5120x1_S5120x1_S5120x1_S5120x1_S5120x1_S5120x1_S5120x6_d1 : Vec Ideal S5120x6 .f32) (ix2 c 2) = x2 (ix2 c (0 : Fin 1)) :=
  concatenate_apply_piece (t := S5120x6) 1 [⟨S5120x1, x0⟩, ⟨S5120x1, x1⟩, ⟨S5120x1, x2⟩, ⟨S5120x1, x3⟩, ⟨S5120x1, x4⟩, ⟨S5120x1, x5⟩] concatenates_S5120x1_S5120x1_S5120x1_S5120x1_S5120x1_S5120x1_S5120x6_d1 (ix2 c 2) 2 (show 2 < 6 by decide) S5120x1 x2 rfl rfl 2 rfl (ix2 c (0 : Fin 1))
    (fun b hb => match b with
      | ⟨0, _⟩ => rfl
      | ⟨1, _⟩ => absurd rfl hb) rfl

theorem join33_3 (x0 x1 x2 x3 x4 x5 : Vec Ideal S5120x1 .f32) (c : Fin 5120) :
    (concatenate S5120x6 1 [⟨S5120x1, x0⟩, ⟨S5120x1, x1⟩, ⟨S5120x1, x2⟩, ⟨S5120x1, x3⟩, ⟨S5120x1, x4⟩, ⟨S5120x1, x5⟩] concatenates_S5120x1_S5120x1_S5120x1_S5120x1_S5120x1_S5120x1_S5120x6_d1 : Vec Ideal S5120x6 .f32) (ix2 c 3) = x3 (ix2 c (0 : Fin 1)) :=
  concatenate_apply_piece (t := S5120x6) 1 [⟨S5120x1, x0⟩, ⟨S5120x1, x1⟩, ⟨S5120x1, x2⟩, ⟨S5120x1, x3⟩, ⟨S5120x1, x4⟩, ⟨S5120x1, x5⟩] concatenates_S5120x1_S5120x1_S5120x1_S5120x1_S5120x1_S5120x1_S5120x6_d1 (ix2 c 3) 3 (show 3 < 6 by decide) S5120x1 x3 rfl rfl 3 rfl (ix2 c (0 : Fin 1))
    (fun b hb => match b with
      | ⟨0, _⟩ => rfl
      | ⟨1, _⟩ => absurd rfl hb) rfl

theorem join33_4 (x0 x1 x2 x3 x4 x5 : Vec Ideal S5120x1 .f32) (c : Fin 5120) :
    (concatenate S5120x6 1 [⟨S5120x1, x0⟩, ⟨S5120x1, x1⟩, ⟨S5120x1, x2⟩, ⟨S5120x1, x3⟩, ⟨S5120x1, x4⟩, ⟨S5120x1, x5⟩] concatenates_S5120x1_S5120x1_S5120x1_S5120x1_S5120x1_S5120x1_S5120x6_d1 : Vec Ideal S5120x6 .f32) (ix2 c 4) = x4 (ix2 c (0 : Fin 1)) :=
  concatenate_apply_piece (t := S5120x6) 1 [⟨S5120x1, x0⟩, ⟨S5120x1, x1⟩, ⟨S5120x1, x2⟩, ⟨S5120x1, x3⟩, ⟨S5120x1, x4⟩, ⟨S5120x1, x5⟩] concatenates_S5120x1_S5120x1_S5120x1_S5120x1_S5120x1_S5120x1_S5120x6_d1 (ix2 c 4) 4 (show 4 < 6 by decide) S5120x1 x4 rfl rfl 4 rfl (ix2 c (0 : Fin 1))
    (fun b hb => match b with
      | ⟨0, _⟩ => rfl
      | ⟨1, _⟩ => absurd rfl hb) rfl

theorem join33_5 (x0 x1 x2 x3 x4 x5 : Vec Ideal S5120x1 .f32) (c : Fin 5120) :
    (concatenate S5120x6 1 [⟨S5120x1, x0⟩, ⟨S5120x1, x1⟩, ⟨S5120x1, x2⟩, ⟨S5120x1, x3⟩, ⟨S5120x1, x4⟩, ⟨S5120x1, x5⟩] concatenates_S5120x1_S5120x1_S5120x1_S5120x1_S5120x1_S5120x1_S5120x6_d1 : Vec Ideal S5120x6 .f32) (ix2 c 5) = x5 (ix2 c (0 : Fin 1)) :=
  concatenate_apply_piece (t := S5120x6) 1 [⟨S5120x1, x0⟩, ⟨S5120x1, x1⟩, ⟨S5120x1, x2⟩, ⟨S5120x1, x3⟩, ⟨S5120x1, x4⟩, ⟨S5120x1, x5⟩] concatenates_S5120x1_S5120x1_S5120x1_S5120x1_S5120x1_S5120x1_S5120x6_d1 (ix2 c 5) 5 (show 5 < 6 by decide) S5120x1 x5 rfl rfl 5 rfl (ix2 c (0 : Fin 1))
    (fun b hb => match b with
      | ⟨0, _⟩ => rfl
      | ⟨1, _⟩ => absurd rfl hb) rfl

theorem V_v33_eq : (V m dev main_v33 : Vec Ideal S5120x6 .f32) = concatenate S5120x6 1 [⟨S5120x1, (W33 m dev main_v27 : Vec Ideal S5120x1 .f32)⟩, ⟨S5120x1, (W33 m dev main_v28 : Vec Ideal S5120x1 .f32)⟩, ⟨S5120x1, (W33 m dev main_v29 : Vec Ideal S5120x1 .f32)⟩, ⟨S5120x1, (W33 m dev main_v30 : Vec Ideal S5120x1 .f32)⟩, ⟨S5120x1, (W33 m dev main_v31 : Vec Ideal S5120x1 .f32)⟩, ⟨S5120x1, (W33 m dev main_v32 : Vec Ideal S5120x1 .f32)⟩] concatenates_S5120x1_S5120x1_S5120x1_S5120x1_S5120x1_S5120x1_S5120x6_d1 := by
  rw [V_cut33]
  simp only [hostOps0, List.drop_succ_cons, List.drop_zero]
  after_results
  rfl

theorem V_v33_0 (c : Fin 5120) : (V m dev main_v33 : Vec Ideal S5120x6 .f32) (ix2 c 0) = (V m dev main_v15 : Vec Ideal S5120 .f32) (ix1 c) := by
  rw [V_v33_eq]
  exact (join33_0 _ _ _ _ _ _ c).trans (W33_v27 m dev c)

theorem V_v33_1 (c : Fin 5120) : (V m dev main_v33 : Vec Ideal S5120x6 .f32) (ix2 c 1) = (V m dev main_v16 : Vec Ideal S5120 .f32) (ix1 c) := by
  rw [V_v33_eq]
  exact (join33_1 _ _ _ _ _ _ c).trans (W33_v28 m dev c)

theorem V_v33_2 (c : Fin 5120) : (V m dev main_v33 : Vec Ideal S5120x6 .f32) (ix2 c 2) = (V m dev main_v17 : Vec Ideal S5120 .f32) (ix1 c) := by
  rw [V_v33_eq]
  exact (join33_2 _ _ _ _ _ _ c).trans (W33_v29 m dev c)

theorem V_v33_3 (c : Fin 5120) : (V m dev main_v33 : Vec Ideal S5120x6 .f32) (ix2 c 3) = (V m dev main_v18 : Vec Ideal S5120 .f32) (ix1 c) := by
  rw [V_v33_eq]
  exact (join33_3 _ _ _ _ _ _ c).trans (W33_v30 m dev c)

theorem V_v33_4 (c : Fin 5120) : (V m dev main_v33 : Vec Ideal S5120x6 .f32) (ix2 c 4) = (V m dev main_v19 : Vec Ideal S5120 .f32) (ix1 c) := by
  rw [V_v33_eq]
  exact (join33_4 _ _ _ _ _ _ c).trans (W33_v31 m dev c)

theorem V_v33_5 (c : Fin 5120) : (V m dev main_v33 : Vec Ideal S5120x6 .f32) (ix2 c 5) = (V m dev main_v20 : Vec Ideal S5120 .f32) (ix1 c) := by
  rw [V_v33_eq]
  exact (join33_5 _ _ _ _ _ _ c).trans (W33_v32 m dev c)

/-- The two tables, given that no box lies to the right of the far sentinel and none has a negative area. -/
theorem tables (hfar : ∀ k, boxes m dev (ix2 k 2) ≤ ((30000 : ℝ) : EReal)) (harea : ∀ k, 0 ≤ area (fun q => boxes m dev (ix2 k q))) :
    Tables m dev (table (box m dev) fun k => area (box m dev k)) (table (box m dev) (score m dev)) := by
  have h0 (r : Fin 5120) := (V_v15 m dev r).trans (table_coord (box m dev) (fun k => area (box m dev k)) r.val 0).symm
  have h1 (r : Fin 5120) := (V_v16 m dev r).trans (table_coord (box m dev) (fun k => area (box m dev k)) r.val 1).symm
  have h2 (r : Fin 5120) := (V_v17 m dev r).trans (table_coord (box m dev) (fun k => area (box m dev k)) r.val 2).symm
  have h3 (r : Fin 5120) := (V_v18 m dev r).trans (table_coord (box m dev) (fun k => area (box m dev k)) r.val 3).symm
  have h4 (r : Fin 5120) := (V_v20 m dev r).trans (table_last (box m dev) (fun k => area (box m dev k)) r.val).symm
  have g (r : Fin 5120) (q : Fin 4) := (table_coord (box m dev) (score m dev) r.val q).symm
  exact {
    cols := fun q c => match q with
      | 0 => (V_v26_0 m dev c).trans (h0 c)
      | 1 => (V_v26_1 m dev c).trans (h1 c)
      | 2 => (V_v26_2 m dev c).trans (h2 c)
      | 3 => (V_v26_3 m dev c).trans (h3 c)
      | 4 => (V_v26_4 m dev c).trans (h4 c)
    x1 := fun r => (V_v33_0 m dev r).trans (h0 r)
    y1 := fun r => (V_v33_1 m dev r).trans (h1 r)
    x2 := fun r => (V_v33_2 m dev r).trans (h2 r)
    y2 := fun r => (V_v33_3 m dev r).trans (h3 r)
    area := fun r => (V_v33_5 m dev r).trans (h4 r)
    vals := fun r q => match q with
      | 0 => (V_v33_0 m dev r).trans ((V_v15 m dev r).trans (g r 0))
      | 1 => (V_v33_1 m dev r).trans ((V_v16 m dev r).trans (g r 1))
      | 2 => (V_v33_2 m dev r).trans ((V_v17 m dev r).trans (g r 2))
      | 3 => (V_v33_3 m dev r).trans ((V_v18 m dev r).trans (g r 3))
      | 4 => (V_v33_4 m dev r).trans ((V_v19 m dev r).trans (table_last (box m dev) (score m dev) r.val).symm)
    far := fun r => by
      refine le_of_eq_of_le (table_coord (box m dev) _ r 2) ?_
      by_cases h : r < 5000
      · rw [dif_pos h]; exact hfar _
      · rw [dif_neg h]; exact_mod_cast (by norm_num : (0 : ℝ) ≤ 30000)
    nonneg := fun r => by
      refine le_of_le_of_eq ?_ (table_last (box m dev) _ r).symm
      by_cases h : r < 5000
      · rw [dif_pos h]; exact harea _
      · rw [dif_neg h] }

end Cert.KernelIdeal.Nms

end
-- ==== Proof.Math.Take.lean ====
/- Rows of a table taken at a vector of positions, and the argsort that gives the positions. -/
module

public import proofs.«01_k».proof.Proof.Math.Table
public import Idealize.ShloMosaic.Lib.IdealHost
public import Idealize.ShloMosaic.Lib.ReduceAll

@[expose] public section

noncomputable section

namespace Cert.Greedy

open Idealize.ShloMosaic Idealize.ShloMosaic.ValueIdx

/-- The positions an argsort returns: the order, as words. -/
theorem argsort_apply {n : ℕ} {α : Type} (cmp : α × BitVec 32 → α × BitVec 32 → BitVec 1) (x : (⟨1, ![n]⟩ : Shape).Idx → α) (j : Fin n) :
    (Host.sort2 ⟨1, ![n]⟩ 0 cmp x (iotaInDim ⟨1, ![n]⟩ 32 0)).2 (ix1 j)
      = BitVec.ofNat 32 (sortedFrom (fun k k' : Fin n => cmp (x (ix1 k), BitVec.ofNat 32 k.val) (x (ix1 k'), BitVec.ofNat 32 k'.val) == 1#1) j).val := by
  exact (congrArg (fun p : ((⟨1, ![n]⟩ : Shape).Idx → α) × ((⟨1, ![n]⟩ : Shape).Idx → BitVec 32) => p.2 (ix1 j)) (Host.sort2_eq_sortBy ⟨1, ![n]⟩ 0 cmp x _)).trans
    (sortBy_apply cmp (fun i => (x i, iotaInDim ⟨1, ![n]⟩ 32 0 i)) (iotaInDim ⟨1, ![n]⟩ 32 0) j)

/-- A gather of whole rows at a column of positions. -/
theorem gather_rows {α : Type} {N C n w : ℕ} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ w) (p : Fin n) (q : Fin C) (k : Fin N)
    (hk : (idx (ix2 p 0)).toInt = k.val) : Host.gather d x idx (ix2 p q) = x (ix2 k q) := by
  obtain ⟨o, c, ob, sb, sm, iv, ss, wf⟩ := d
  subst hoff hcoll hob hsim hivd
  have h0 : ss 0 = 1 := GatherDims.slice_collapsed ⟨[1], [0], [], sb, [0], 1, ss, wf⟩ 0 (List.mem_singleton.mpr rfl)
  unfold Host.gather
  refine congrArg x (funext fun a => Fin.ext ?_)
  have hsi : GatherDims.siIdx ⟨[1], [0], [], sb, [0], 1, ss, wf⟩ (ix2 p q) ⟨0, Nat.one_pos⟩ = (ix2 p 0 : (⟨2, ![n, 1]⟩ : Shape).Idx) := by
    funext b; refine Fin.ext ?_
    match b with
    | ⟨0, _⟩ => rfl
    | ⟨1, _⟩ => rfl
  match a with
  | ⟨0, _⟩ =>
    show min (idx (GatherDims.siIdx ⟨[1], [0], [], sb, [0], 1, ss, wf⟩ (ix2 p q) ⟨0, Nat.one_pos⟩)).toInt.toNat (N - ss 0) + 0 + 0 = k.val
    rw [hsi, hk, h0]
    have := k.isLt
    rw [Int.toNat_natCast]; omega
  | ⟨1, _⟩ =>
    show 0 + 0 + q.val = q.val
    omega

/-- A gather of single entries at a column of positions. -/
theorem gather_entries {α : Type} {N n w : ℕ} (d : GatherDims ⟨1, ![N]⟩ ⟨2, ![n, 1]⟩ ⟨1, ![n]⟩)
    (hoff : d.offsetDims = []) (hcoll : d.collapsedSliceDims = [0]) (hob : d.operandBatchingDims = [])
    (hsim : d.startIndexMap = [0]) (hivd : d.indexVectorDim = 1)
    (x : (⟨1, ![N]⟩ : Shape).Idx → α) (idx : IVec ⟨2, ![n, 1]⟩ w) (p : Fin n) (k : Fin N)
    (hk : (idx (ix2 p 0)).toInt = k.val) : Host.gather d x idx (ix1 p) = x (ix1 k) := by
  obtain ⟨o, c, ob, sb, sm, iv, ss, wf⟩ := d
  subst hoff hcoll hob hsim hivd
  have h0 : ss 0 = 1 := GatherDims.slice_collapsed ⟨[], [0], [], sb, [0], 1, ss, wf⟩ 0 (List.mem_singleton.mpr rfl)
  unfold Host.gather
  refine congrArg x (funext fun a => Fin.ext ?_)
  have hsi : GatherDims.siIdx ⟨[], [0], [], sb, [0], 1, ss, wf⟩ (ix1 p) ⟨0, Nat.one_pos⟩ = (ix2 p 0 : (⟨2, ![n, 1]⟩ : Shape).Idx) := by
    funext b; refine Fin.ext ?_
    match b with
    | ⟨0, _⟩ => rfl
    | ⟨1, _⟩ => rfl
  match a with
  | ⟨0, _⟩ =>
    show min (idx (GatherDims.siIdx ⟨[], [0], [], sb, [0], 1, ss, wf⟩ (ix1 p) ⟨0, Nat.one_pos⟩)).toInt.toNat (N - ss 0) + 0 + 0 = k.val
    rw [hsi, hk, h0]
    have := k.isLt
    rw [Int.toNat_natCast]; omega

end Cert.Greedy

end
-- ==== Proof.ReferenceIdeal.Sorted.lean ====
/- The reference's order of the boxes by falling score, and the boxes and scores taken in that order. -/
module

public import proofs.«01_k».proof.Proof.ReferenceIdeal.Frame
public import proofs.«01_k».proof.Proof.Math.Take
public import Idealize.ShloMosaic.Lib.DynamicIndex
public import Idealize.ShloMosaic.Lib.Affine
public import Idealize.ShloMosaic.Lib.WordCmp
public import Idealize.ShloMosaic.PureOps.Ideal

@[expose] public section

set_option maxRecDepth 16384

noncomputable section

namespace Cert.ReferenceIdeal.Nms

open Cert.ReferenceIdeal Cert.ReferenceIdeal.Gen Cert.ReferenceIdeal.Value Cert.Greedy
open Idealize.ShloMosaic Idealize.ShloMosaic.TcCoe Idealize.ShloMosaic.StableHlo Idealize.ShloMosaic.ValueIdx
open Idealize.SL.Sem

/-- The order of the boxes by falling score. -/
def order (s : Fin 5000 → EReal) : Fin 5000 → Fin 5000 :=
  sortedFrom fun k k' => comparator_f32_i32_d0 (F := Ideal) (-s k, BitVec.ofNat 32 k.val) (-s k', BitVec.ofNat 32 k'.val) == 1#1

theorem argsort_at (U : Valuation τ sig (Elt Ideal)) (s : Vec Ideal S5000 .f32) (hs : (U main_arg1 : Vec Ideal S5000 .f32) = s) (j : Fin 5000) :
    (after hostOps0_1 (after hostOps0 U) main_v1 : Vec Ideal S5000 .i32) (ix1 j) = BitVec.ofNat 32 (order (fun k => s (ix1 k)) j).val := by
  have e : (after hostOps0_1 (after hostOps0 U) main_v1 : Vec Ideal S5000 .i32)
      = (Host.sort2 S5000 0 (comparator_f32_i32_d0 (F := Ideal)) (Host.negf (s : FVec Ideal S5000 .f32) : FVec Ideal S5000 .f32) (iotaInDim S5000 32 0)).2 := by
    after_results
    rw [hs]
    rfl
  rw [e]
  exact argsort_apply _ _ j

section Take
variable (i : IVec S5000 32)

/-- The positions with the negative ones wrapped, as a column. -/
def wrapped : IVec S5000x1 32 :=
  broadcastInDim S5000x1 ![0] bcast_S5000_S5000x1_0 (select (cmpi .slt i (broadcastInDim S5000 ![] bcast_S_S5000 (constantI S_ 32 0#32)))
    (addi i (broadcastInDim S5000 ![] bcast_S_S5000 (constantI S_ 32 5000#32))) i)

/-- Which positions lie inside the table. -/
def inside : IVec S5000 1 :=
  Host.reduce IntOp.andi (andi (cmpi .sge (wrapped i) (broadcastInDim S5000x1 ![] bcast_S_S5000x1 (constantI S_ 32 0#32)))
    (cmpi .sle (wrapped i) (broadcastInDim S5000x1 ![0, 1] bcast_S1x1_S5000x1_0_1 (broadcastInDim S1x1 ![1] bcast_S1_S1x1_1 (constantI S1 32 4999#32)))))
    (constantI S_ 1 1#1) reducesTo_S5000x1_S5000_d1 h_S_

variable {i} {σ : Fin 5000 → Fin 5000} (hi : ∀ k, i (ix1 k) = BitVec.ofNat 32 (σ k).val)
include hi

theorem toInt_pos (k : Fin 5000) : (i (ix1 k)).toInt = (σ k).val := by
  rw [hi, WordCmp.toInt_ofNat_of_lt (by have := (σ k).isLt; omega)]

theorem wrapped_apply (k : Fin 5000) : (wrapped i (ix2 k 0)).toInt = (σ k).val := by
  rw [← toInt_pos hi k]
  refine congrArg BitVec.toInt ?_
  refine (broadcastInDim_apply (s := S5000) ![0] bcast_S5000_S5000x1_0 _ (ix2 k 0) (ix1 k) (fun a => match a with | ⟨0, _⟩ => rfl)).trans ?_
  exact select_slt_zero_of_nonneg i _ i (ix1 k) (by rw [toInt_pos hi k]; exact Int.natCast_nonneg _)

theorem inside_apply (k : Fin 5000) : inside i (ix1 k) = 1#1 := by
  refine Host.reduce_andi_one _ _ _ _ _ rfl fun j => ?_
  have ej : j = ix2 (j 0) 0 := (eq_ix2 j).trans (congrArg (ix2 (j 0)) (Fin.ext (Nat.lt_one_iff.mp (j 1).isLt)))
  have hw := wrapped_apply hi (j 0)
  have hl := (σ (j 0)).isLt
  rw [ej]
  show IntOp.andi (IntOp.cmpi .sge (wrapped i (ix2 (j 0) 0)) 0#32) (IntOp.cmpi .sle (wrapped i (ix2 (j 0) 0)) 4999#32) = 1#1
  rw [IntOp.cmpi_sge.mpr (by rw [hw]; exact Int.natCast_nonneg _), IntOp.cmpi_sle.mpr (by rw [hw]; show ((σ (j 0)).val : ℤ) ≤ 4999; omega)]
  rfl

end Take

theorem rows_at (U : Valuation τ sig (Elt Ideal)) {σ : Fin 5000 → Fin 5000}
    (hi : ∀ k, (U main_v1 : Vec Ideal S5000 .i32) (ix1 k) = BitVec.ofNat 32 (σ k).val) (k : Fin 5000) (q : Fin 4) :
    (after hostOps0_2 U main_v2 : Vec Ideal S5000x4 .f32) (ix2 k q) = (U main_arg0 : Vec Ideal S5000x4 .f32) (ix2 (σ k) q) := by
  have e : (after hostOps0_2 U main_v2 : Vec Ideal S5000x4 .f32)
      = select (broadcastInDim S5000x4 ![0] bcast_S5000_S5000x4_0 (inside (U main_v1)))
          (Host.gather gather_S5000x4_S5000x1_S5000x4_1_0_n_n_0_1_14 (U main_arg0 : FVec Ideal S5000x4 .f32) (wrapped (U main_v1)))
          (broadcastInDim S5000x4 ![] bcast_S_S5000x4 (constant S_ .f32 0x7FC00000#32 : FVec Ideal S_ .f32)) := by
    after_results
    rfl
  rw [e, select_apply]
  rw [show broadcastInDim S5000x4 ![0] bcast_S5000_S5000x4_0 (inside (U main_v1)) (ix2 k q) = 1#1 from
    (broadcastInDim_apply (s := S5000) ![0] bcast_S5000_S5000x4_0 _ (ix2 k q) (ix1 k) (fun a => match a with | ⟨0, _⟩ => rfl)).trans (inside_apply hi k)]
  rw [select_one]
  exact gather_rows _ rfl rfl rfl rfl rfl _ _ k q (σ k) (wrapped_apply hi k)

theorem entries_at (U : Valuation τ sig (Elt Ideal)) {σ : Fin 5000 → Fin 5000}
    (hi : ∀ k, (U main_v1 : Vec Ideal S5000 .i32) (ix1 k) = BitVec.ofNat 32 (σ k).val) (k : Fin 5000) :
    (after hostOps0_3 U main_v3 : Vec Ideal S5000 .f32) (ix1 k) = (U main_arg1 : Vec Ideal S5000 .f32) (ix1 (σ k)) := by
  have e : (after hostOps0_3 U main_v3 : Vec Ideal S5000 .f32)
      = select (inside (U main_v1))
          (Host.gather gather_S5000_S5000x1_S5000_n_0_n_n_0_1_1 (U main_arg1 : FVec Ideal S5000 .f32) (wrapped (U main_v1)))
          (broadcastInDim S5000 ![] bcast_S_S5000 (constant S_ .f32 0x7FC00000#32 : FVec Ideal S_ .f32)) := by
    after_results
    rfl
  rw [e, select_apply, inside_apply hi k, select_one]
  exact gather_entries _ rfl rfl rfl rfl rfl _ _ k (σ k) (wrapped_apply hi k)

end Cert.ReferenceIdeal.Nms

end
-- ==== Proof.Math.Overlap.lean ====
/- The quotient the overlap of two boxes is first stated by, and that on boxes of a proper area comparing it with one half is
   the division-free test. -/
module

public import proofs.«01_k».proof.Proof.Math.Flag
public import proofs.«01_k».proof.Proof.Math.Table
public import proofs.«01_k».proof.Proof.Math.Greedy

@[expose] public section

noncomputable section

namespace Cert.Greedy

open Idealize.ShloMosaic

/-- The number that keeps the quotient's divisor off zero. -/
def guard : EReal := Ideal.ofBits .f32 0x3089705F#32

theorem guard_real : ∃ e : ℝ, 0 < e ∧ guard = (e : EReal) := by
  refine ⟨9007199 * 2⁻¹ ^ 53, by positivity, ?_⟩
  unfold guard
  simp [Ideal.ofBits, Ideal.ieee, -EReal.coe_mul]

/-- The common area of two boxes, each side no less than zero. -/
def inter (b b' : Fin 4 → EReal) : EReal :=
  max 0 (min (b 2) (b' 2) - max (b 0) (b' 0)) * max 0 (min (b 3) (b' 3) - max (b 1) (b' 1))

/-- The common area of two boxes over the area they cover together. -/
def iou (b b' : Fin 4 → EReal) : EReal := Ideal.div (inter b b') (max (area b + area b' - inter b b') guard)

/-- A box with finite corners, its right edge no further than 3e4, its area no less than the guard. -/
structure Proper (b : Fin 4 → EReal) : Prop where
  real : ∀ q, ∃ x : ℝ, b q = x
  near : b 2 ≤ ((30000 : ℝ) : EReal)
  area : guard ≤ area b

theorem coe_max (a b : ℝ) : max (a : EReal) b = ((max a b : ℝ) : EReal) := (EReal.coe_strictMono.monotone.map_max).symm
theorem coe_min (a b : ℝ) : min (a : EReal) b = ((min a b : ℝ) : EReal) := (EReal.coe_strictMono.monotone.map_min).symm

/-- The two tests on real numbers. -/
theorem tests_real {x1 y1 x2 y2 x1' y1' x2' y2' e : ℝ} (he : 0 < e)
    (ha : e ≤ (x2 - x1) * (y2 - y1)) (ha' : e ≤ (x2' - x1') * (y2' - y1')) (w h i a a' : ℝ)
    (hw : w = min x2 x2' - max x1 x1') (hh : h = min y2 y2' - max y1 y1') (hi : i = max 0 w * max 0 h)
    (hA : a = (x2 - x1) * (y2 - y1)) (hA' : a' = (x2' - x1') * (y2' - y1')) :
    1 / 2 < i / max (a + a' - i) e ↔ a + a' < 3 * (max w 0 * h) := by
  have w0 : 0 ≤ max 0 w := le_max_left _ _
  have h0 : 0 ≤ max 0 h := le_max_left _ _
  have i0 : 0 ≤ i := hi ▸ mul_nonneg w0 h0
  have wle : w ≤ x2 - x1 := by rw [hw]; linarith [min_le_left x2 x2', le_max_left x1 x1']
  have hle : h ≤ y2 - y1 := by rw [hh]; linarith [min_le_left y2 y2', le_max_left y1 y1']
  have ia : i ≤ a := by
    rcases le_or_gt w 0 with hw0 | hw0
    · rw [hi, max_eq_left hw0, zero_mul]; linarith
    rcases le_or_gt h 0 with hh0 | hh0
    · rw [hi, max_eq_left hh0, mul_zero]; linarith
    rw [hi, hA, max_eq_right hw0.le, max_eq_right hh0.le]
    exact mul_le_mul wle hle hh0.le (by linarith)
  have hu : e ≤ a + a' - i := by linarith
  rw [max_eq_left hu, lt_div_iff₀ (by linarith)]
  rcases le_total 0 h with hpos | hneg
  · rw [show max w 0 * h = i by rw [hi, max_comm w 0, max_eq_right hpos]]
    constructor <;> intro hlt <;> linarith
  · have hz : i = 0 := by rw [hi, max_eq_left hneg, mul_zero]
    have hm : max w 0 * h ≤ 0 := mul_nonpos_of_nonneg_of_nonpos (le_max_right _ _) hneg
    constructor <;> intro hlt <;> linarith

/-- On proper boxes the quotient passes one half just when three times the intersection passes the sum of the areas. -/
theorem half_lt_iou {b b' : Fin 4 → EReal} (h : Proper b) (h' : Proper b') :
    (((1 : ℝ) / 2 : ℝ) : EReal) < iou b b' ↔ Over (b 0) (b 1) (b 2) (b 3) (area b) (b' 0) (b' 1) (b' 2) (b' 3) (area b') := by
  obtain ⟨x1, e0⟩ := h.real 0
  obtain ⟨y1, e1⟩ := h.real 1
  obtain ⟨x2, e2⟩ := h.real 2
  obtain ⟨y2, e3⟩ := h.real 3
  obtain ⟨x1', e0'⟩ := h'.real 0
  obtain ⟨y1', e1'⟩ := h'.real 1
  obtain ⟨x2', e2'⟩ := h'.real 2
  obtain ⟨y2', e3'⟩ := h'.real 3
  obtain ⟨e, he, eg⟩ := guard_real
  have hA : area b = (((x2 - x1) * (y2 - y1) : ℝ) : EReal) := by
    unfold area; rw [e0, e1, e2, e3, ← EReal.coe_sub, ← EReal.coe_sub, ← EReal.coe_mul]
  have hA' : area b' = (((x2' - x1') * (y2' - y1') : ℝ) : EReal) := by
    unfold area; rw [e0', e1', e2', e3', ← EReal.coe_sub, ← EReal.coe_sub, ← EReal.coe_mul]
  have ha : e ≤ (x2 - x1) * (y2 - y1) := by
    have := h.area; rw [eg, hA] at this; exact EReal.coe_le_coe_iff.mp this
  have ha' : e ≤ (x2' - x1') * (y2' - y1') := by
    have := h'.area; rw [eg, hA'] at this; exact EReal.coe_le_coe_iff.mp this
  have hI : inter b b' = ((max 0 (min x2 x2' - max x1 x1') * max 0 (min y2 y2' - max y1 y1') : ℝ) : EReal) := by
    unfold inter
    rw [e0, e1, e2, e3, e0', e1', e2', e3', coe_min, coe_max, coe_min, coe_max, ← EReal.coe_sub, ← EReal.coe_sub,
      ← EReal.coe_zero, coe_max, coe_max, ← EReal.coe_mul]
  have key := tests_real he ha ha' _ _ _ _ _ rfl rfl rfl rfl rfl
  unfold iou Over
  rw [hI, hA, hA', eg, ← EReal.coe_add, ← EReal.coe_sub, coe_max]
  rw [e0, e1, e2, e3, e0', e1', e2', e3', coe_min, coe_max, coe_min, coe_max, ← EReal.coe_sub, ← EReal.coe_sub,
      ← EReal.coe_zero, coe_max, ← EReal.coe_mul, show (3 : EReal) = ((3 : ℝ) : EReal) from rfl, ← EReal.coe_mul, EReal.coe_lt_coe_iff]
  rw [← key]
  have hd : (max ((x2 - x1) * (y2 - y1) + (x2' - x1') * (y2' - y1') - max 0 (min x2 x2' - max x1 x1') * max 0 (min y2 y2' - max y1 y1')) e : ℝ) ≠ 0 :=
    ne_of_gt (lt_of_lt_of_le he (le_max_right _ _))
  unfold Ideal.div
  rw [if_neg (by rw [← EReal.coe_zero]; exact fun hh => hd (EReal.coe_eq_coe_iff.mp hh)), ← EReal.coe_inv, ← EReal.coe_mul, EReal.coe_lt_coe_iff,
    div_eq_mul_inv (max 0 _ * _)]

theorem Proper.area_nonneg {b : Fin 4 → EReal} (h : Proper b) : 0 ≤ Greedy.area b := by
  obtain ⟨e, he, eg⟩ := guard_real
  have := h.area
  rw [eg] at this
  exact (EReal.coe_nonneg.mpr he.le).trans this

/-- Which positions below `n` survive depends only on the overlaps below `n`. -/
theorem kept_congr {ov ov' : ℕ → ℕ → Prop} {n : ℕ} (h : ∀ r c, r < c → c < n → (ov r c ↔ ov' r c)) :
    ∀ c, c < n → (Kept ov c ↔ Kept ov' c) := by
  intro c
  induction c using Nat.strong_induction_on with
  | _ c ih =>
    intro hc
    rw [kept_iff, kept_iff]
    exact forall_congr' fun r => forall_congr' fun hr => imp_congr (ih r hr (hr.trans hc)) (not_congr (h r c hr hc))

end Cert.Greedy

end
-- ==== Proof.ReferenceIdeal.Quotient.lean ====
/- The reference's table of overlap quotients, read at a pair of positions. -/
module

public import proofs.«01_k».proof.Proof.ReferenceIdeal.Sorted
public import proofs.«01_k».proof.Proof.Math.Overlap

@[expose] public section

set_option maxRecDepth 16384

noncomputable section

namespace Cert.ReferenceIdeal.Nms

open Cert.ReferenceIdeal Cert.ReferenceIdeal.Gen Cert.ReferenceIdeal.Value Cert.Greedy
open Idealize.ShloMosaic Idealize.ShloMosaic.TcCoe Idealize.ShloMosaic.StableHlo Idealize.ShloMosaic.ValueIdx
open Idealize.SL.Sem

variable (U : Valuation τ sig (Elt Ideal))

/-! ## The areas -/

/-- The areas of the boxes of a table. -/
def areas (x : FVec Ideal S5000x4 .f32) : FVec Ideal S5000 .f32 :=
  mulf (subf (shapeCast S5000 (extractStridedSlice S5000x1 ![0, 2] x slices_S5000x4_S5000x1_0_2) shapeCasts_S5000x1_S5000)
      (shapeCast S5000 (extractStridedSlice S5000x1 ![0, 0] x slices_S5000x4_S5000x1_0_0) shapeCasts_S5000x1_S5000))
    (subf (shapeCast S5000 (extractStridedSlice S5000x1 ![0, 3] x slices_S5000x4_S5000x1_0_3) shapeCasts_S5000x1_S5000)
      (shapeCast S5000 (extractStridedSlice S5000x1 ![0, 1] x slices_S5000x4_S5000x1_0_1) shapeCasts_S5000x1_S5000))

theorem areas_apply (x : FVec Ideal S5000x4 .f32) (k : Fin 5000) : areas x (ix1 k) = area (fun q => x (ix2 k q)) :=
  congrArg₂ (fun a b : EReal => a * b)
    (congrArg₂ (fun a b : EReal => a - b) (coord_apply x 2 slices_S5000x4_S5000x1_0_2 shapeCasts_S5000x1_S5000 k (by decide))
      (coord_apply x 0 slices_S5000x4_S5000x1_0_0 shapeCasts_S5000x1_S5000 k (by decide)))
    (congrArg₂ (fun a b : EReal => a - b) (coord_apply x 3 slices_S5000x4_S5000x1_0_3 shapeCasts_S5000x1_S5000 k (by decide))
      (coord_apply x 1 slices_S5000x4_S5000x1_0_1 shapeCasts_S5000x1_S5000 k (by decide)))

theorem v14_eq : (after hostOps0_4 U main_v14 : Vec Ideal S5000 .f32) = areas (U main_v2) := by
  after_results
  rfl

theorem v25_eq : (after hostOps0_4 U main_v25 : Vec Ideal S5000 .f32) = areas (U main_v2) := by
  after_results
  rfl

theorem cst_eq : (after hostOps0_4 U main_cst : Vec Ideal S_ .f32) = (constant S_ .f32 0x00000000#32 : FVec Ideal S_ .f32) := by
  after_results

/-! ## The sides of the common box -/

/-- A pair of columns laid along the first axis of a square of pairs. -/
def asRows (x : FVec Ideal S5000x2 .f32) : FVec Ideal S5000x5000x2 .f32 :=
  broadcastInDim S5000x5000x2 ![0, 1, 2] bcast_S5000x1x2_S5000x5000x2_0_1_2 (broadcastInDim S5000x1x2 ![0, 2] bcast_S5000x2_S5000x1x2_0_2 x)

/-- A pair of columns laid along the second axis. -/
def asCols (x : FVec Ideal S5000x2 .f32) : FVec Ideal S5000x5000x2 .f32 :=
  broadcastInDim S5000x5000x2 ![0, 1, 2] bcast_S1x5000x2_S5000x5000x2_0_1_2 (broadcastInDim S1x5000x2 ![1, 2] bcast_S5000x2_S1x5000x2_1_2 x)

theorem asRows_apply (x : FVec Ideal S5000x2 .f32) (r c : Fin 5000) (q : Fin 2) : asRows x (ix3 r c q) = x (ix2 r q) :=
  (broadcastInDim_apply (s := S5000x1x2) ![0, 1, 2] bcast_S5000x1x2_S5000x5000x2_0_1_2 _ (ix3 r c q) (ix3 r (0 : Fin 1) q)
    (fun a => match a with | ⟨0, _⟩ => rfl | ⟨1, _⟩ => rfl | ⟨2, _⟩ => rfl)).trans
  (broadcastInDim_apply (s := S5000x2) ![0, 2] bcast_S5000x2_S5000x1x2_0_2 x (ix3 r (0 : Fin 1) q) (ix2 r q)
    (fun a => match a with | ⟨0, _⟩ => rfl | ⟨1, _⟩ => rfl))

theorem asCols_apply (x : FVec Ideal S5000x2 .f32) (r c : Fin 5000) (q : Fin 2) : asCols x (ix3 r c q) = x (ix2 c q) :=
  (broadcastInDim_apply (s := S1x5000x2) ![0, 1, 2] bcast_S1x5000x2_S5000x5000x2_0_1_2 _ (ix3 r c q) (ix3 (0 : Fin 1) c q)
    (fun a => match a with | ⟨0, _⟩ => rfl | ⟨1, _⟩ => rfl | ⟨2, _⟩ => rfl)).trans
  (broadcastInDim_apply (s := S5000x2) ![1, 2] bcast_S5000x2_S1x5000x2_1_2 x (ix3 (0 : Fin 1) c q) (ix2 c q)
    (fun a => match a with | ⟨0, _⟩ => rfl | ⟨1, _⟩ => rfl))

/-- The sides of the common box of every pair, with their signs. -/
def sides (x : FVec Ideal S5000x4 .f32) : FVec Ideal S5000x5000x2 .f32 :=
  subf (minimumf (asRows (extractStridedSlice S5000x2 ![0, 2] x slices_S5000x4_S5000x2_0_2)) (asCols (extractStridedSlice S5000x2 ![0, 2] x slices_S5000x4_S5000x2_0_2)))
    (maximumf (asRows (extractStridedSlice S5000x2 ![0, 0] x slices_S5000x4_S5000x2_0_0)) (asCols (extractStridedSlice S5000x2 ![0, 0] x slices_S5000x4_S5000x2_0_0)))

theorem far_pair (x : FVec Ideal S5000x4 .f32) (r : Fin 5000) (q : Fin 2) :
    extractStridedSlice S5000x2 ![0, 2] x slices_S5000x4_S5000x2_0_2 (ix2 r q) = x (ix2 r ⟨2 + q.val, by omega⟩) :=
  extractStridedSlice_apply (t := S5000x2) ![0, 2] x slices_S5000x4_S5000x2_0_2 (ix2 r q) (ix2 r ⟨2 + q.val, by omega⟩)
    (fun a => match a with | ⟨0, _⟩ => (Nat.zero_add _).symm | ⟨1, _⟩ => rfl)

theorem near_pair (x : FVec Ideal S5000x4 .f32) (r : Fin 5000) (q : Fin 2) :
    extractStridedSlice S5000x2 ![0, 0] x slices_S5000x4_S5000x2_0_0 (ix2 r q) = x (ix2 r ⟨q.val, by omega⟩) :=
  extractStridedSlice_apply (t := S5000x2) ![0, 0] x slices_S5000x4_S5000x2_0_0 (ix2 r q) (ix2 r ⟨q.val, by omega⟩)
    (fun a => match a with | ⟨0, _⟩ => (Nat.zero_add _).symm | ⟨1, _⟩ => (Nat.zero_add _).symm)

theorem sides_apply (x : FVec Ideal S5000x4 .f32) (r c : Fin 5000) (q : Fin 2) :
    sides x (ix3 r c q) = (min (x (ix2 r ⟨2 + q.val, by omega⟩) : EReal) (x (ix2 c ⟨2 + q.val, by omega⟩) : EReal)
      - max (x (ix2 r ⟨q.val, by omega⟩) : EReal) (x (ix2 c ⟨q.val, by omega⟩) : EReal) : EReal) :=
  congrArg₂ (fun a b : EReal => a - b)
    (congrArg₂ (fun a b : EReal => min a b) ((asRows_apply _ r c q).trans (far_pair x r q)) ((asCols_apply _ r c q).trans (far_pair x c q)))
    (congrArg₂ (fun a b : EReal => max a b) ((asRows_apply _ r c q).trans (near_pair x r q)) ((asCols_apply _ r c q).trans (near_pair x c q)))

theorem v40_eq : (after hostOps0_4 U main_v40 : Vec Ideal S5000x5000x2 .f32) = sides (U main_v2) := by
  after_results
  rfl

/-- The sides of the common box, none below zero. -/
theorem v41_at (z : (U main_cst : Vec Ideal S_ .f32) = (constant S_ .f32 0x00000000#32 : FVec Ideal S_ .f32)) (x : FVec Ideal S5000x4 .f32)
    (h : (U main_v40 : Vec Ideal S5000x5000x2 .f32) = sides x) (j : S5000x5000x2.Idx) :
    (after hostOps0_5 U main_v41 : Vec Ideal S5000x5000x2 .f32) j = (max 0 (sides x j : EReal) : EReal) := by
  have e : (after hostOps0_5 U main_v41 : Vec Ideal S5000x5000x2 .f32)
      = maximumf (broadcastInDim S5000x5000x2 ![] bcast_S_S5000x5000x2 (constant S_ .f32 0x00000000#32 : FVec Ideal S_ .f32)) (sides x) := by
    after_results
    rw [z, h]
    rfl
  rw [e]
  exact congrArg (fun a : EReal => max a (sides x j : EReal)) Ideal.ofBits_zero_f32

/-! ## The quotients -/

theorem side_apply (y : FVec Ideal S5000x5000x2 .f32) (q : ℕ) (hq : q < 2) (h : S5000x5000x2.Slices ![0, 0, q] S5000x5000x1) (r c : Fin 5000) :
    shapeCast S5000x5000 (extractStridedSlice S5000x5000x1 ![0, 0, q] y h) shapeCasts_S5000x5000x1_S5000x5000 (ix2 r c) = y (ix3 r c ⟨q, hq⟩) := by
  refine (shapeCast_apply _ shapeCasts_S5000x5000x1_S5000x5000 (ix2 r c) (ix3 r c (0 : Fin 1)) ?_).trans
    (extractStridedSlice_apply (t := S5000x5000x1) ![0, 0, q] y h (ix3 r c (0 : Fin 1)) (ix3 r c ⟨q, hq⟩)
      (fun a => match a with | ⟨0, _⟩ => (Nat.zero_add _).symm | ⟨1, _⟩ => (Nat.zero_add _).symm | ⟨2, _⟩ => rfl))
  rw [Shape.rowMajor_val_two, Shape.rowMajor_val_three]
  show (r.val * 5000 + c.val) * 1 + 0 = r.val * 5000 + c.val
  omega

/-- The product of the two sides of every pair's common box. -/
def common (y : FVec Ideal S5000x5000x2 .f32) : FVec Ideal S5000x5000 .f32 :=
  mulf (shapeCast S5000x5000 (extractStridedSlice S5000x5000x1 ![0, 0, 0] y slices_S5000x5000x2_S5000x5000x1_0_0_0) shapeCasts_S5000x5000x1_S5000x5000)
    (shapeCast S5000x5000 (extractStridedSlice S5000x5000x1 ![0, 0, 1] y slices_S5000x5000x2_S5000x5000x1_0_0_1) shapeCasts_S5000x5000x1_S5000x5000)

theorem common_apply (y : FVec Ideal S5000x5000x2 .f32) (r c : Fin 5000) :
    common y (ix2 r c) = ((y (ix3 r c 0) : EReal) * (y (ix3 r c 1) : EReal) : EReal) :=
  congrArg₂ (fun a b : EReal => a * b) (side_apply y 0 (by decide) _ r c) (side_apply y 1 (by decide) _ r c)

/-- The sum of the two areas of every pair. -/
def sums (a a' : FVec Ideal S5000 .f32) : FVec Ideal S5000x5000 .f32 :=
  addf (broadcastInDim S5000x5000 ![0, 1] bcast_S5000x1_S5000x5000_0_1 (broadcastInDim S5000x1 ![0] bcast_S5000_S5000x1_0 a))
    (broadcastInDim S5000x5000 ![0, 1] bcast_S1x5000_S5000x5000_0_1 (broadcastInDim S1x5000 ![1] bcast_S5000_S1x5000_1 a'))

theorem sums_apply (a a' : FVec Ideal S5000 .f32) (r c : Fin 5000) : sums a a' (ix2 r c) = ((a (ix1 r) : EReal) + (a' (ix1 c) : EReal) : EReal) :=
  congrArg₂ (fun a b : EReal => a + b)
    ((broadcastInDim_apply (s := S5000x1) ![0, 1] bcast_S5000x1_S5000x5000_0_1 _ (ix2 r c) (ix2 r (0 : Fin 1)) (fun a => match a with | ⟨0, _⟩ => rfl | ⟨1, _⟩ => rfl)).trans
      (broadcastInDim_apply (s := S5000) ![0] bcast_S5000_S5000x1_0 a (ix2 r (0 : Fin 1)) (ix1 r) (fun a => match a with | ⟨0, _⟩ => rfl)))
    ((broadcastInDim_apply (s := S1x5000) ![0, 1] bcast_S1x5000_S5000x5000_0_1 _ (ix2 r c) (ix2 (0 : Fin 1) c) (fun a => match a with | ⟨0, _⟩ => rfl | ⟨1, _⟩ => rfl)).trans
      (broadcastInDim_apply (s := S5000) ![1] bcast_S5000_S1x5000_1 a' (ix2 (0 : Fin 1) c) (ix1 c) (fun a => match a with | ⟨0, _⟩ => rfl)))

theorem v58_0_eq : (after hostOps0_6 U main_v58_0 : Vec Ideal S5000x5000 .f32)
    = (Host.divf (common (U main_v41)) (maximumf (subf (sums (U main_v14) (U main_v25)) (common (U main_v41)))
        (broadcastInDim S5000x5000 ![] bcast_S_S5000x5000 (constant S_ .f32 0x3089705F#32 : FVec Ideal S_ .f32))) : FVec Ideal S5000x5000 .f32) := by
  after_results
  rfl

/-- The table of quotients the loop is entered with. -/
theorem quotient_at (x : FVec Ideal S5000x4 .f32) (h14 : (U main_v14 : Vec Ideal S5000 .f32) = areas x) (h25 : (U main_v25 : Vec Ideal S5000 .f32) = areas x)
    (h41 : ∀ j, (U main_v41 : Vec Ideal S5000x5000x2 .f32) j = (max 0 (sides x j : EReal) : EReal)) (r c : Fin 5000) :
    (after hostOps0_6 U main_v58_0 : Vec Ideal S5000x5000 .f32) (ix2 r c) = iou (fun q => x (ix2 r q)) (fun q => x (ix2 c q)) := by
  have hI : common (U main_v41) (ix2 r c) = inter (fun q => x (ix2 r q)) (fun q => x (ix2 c q)) :=
    (common_apply _ r c).trans (congrArg₂ (fun a b : EReal => a * b)
      ((h41 _).trans (congrArg (fun a : EReal => max 0 a) (sides_apply x r c 0)))
      ((h41 _).trans (congrArg (fun a : EReal => max 0 a) (sides_apply x r c 1))))
  have hS : sums (U main_v14) (U main_v25) (ix2 r c) = (area (fun q => x (ix2 r q)) + area (fun q => x (ix2 c q)) : EReal) := by
    rw [h14, h25]
    exact (sums_apply _ _ r c).trans (congrArg₂ (fun a b : EReal => a + b) (areas_apply x r) (areas_apply x c))
  rw [v58_0_eq]
  exact congrArg₂ (fun a b : EReal => Ideal.div a b) hI
    (congrArg (fun a : EReal => max a guard) (congrArg₂ (fun a b : EReal => a - b) hS hI))

end Cert.ReferenceIdeal.Nms

end
-- ==== Proof.ReferenceIdeal.Trip.lean ====
/- One trip of the reference's loop, read at a position: the row's survivor strikes out the later positions it overlaps. -/
module

public import proofs.«01_k».proof.Proof.ReferenceIdeal.Quotient

@[expose] public section

set_option maxRecDepth 16384

noncomputable section

namespace Cert.ReferenceIdeal.Nms

open Cert.ReferenceIdeal Cert.ReferenceIdeal.Gen Cert.ReferenceIdeal.Value Cert.Greedy
open Idealize.ShloMosaic Idealize.ShloMosaic.TcCoe Idealize.ShloMosaic.StableHlo Idealize.ShloMosaic.ValueIdx
open Idealize.SL.Sem

theorem half_word : Ideal.ofBits .f32 0x3F000000#32 = (((1 : ℝ) / 2 : ℝ) : EReal) := by
  simp [Ideal.ofBits, Ideal.ieee, -EReal.coe_mul]; norm_num

section Step
variable (x : FVec Ideal S5000x5000 .f32) (p : IVec S5000 32) (i : IVec S_ 32) (keep : IVec S5000 1)

/-- The trip's number, wrapped were it negative. -/
def trip : IVec S_ 32 := select (cmpi .slt i (constantI S_ 32 0#32)) (addi (id i) (constantI S_ 32 5000#32)) i

/-- The trip's row of the table. -/
def rowOf : FVec Ideal S5000 .f32 :=
  shapeCast S5000 (Host.dynamicSlice S1x5000 x (fun k => (((![trip i, constantI S_ 32 0#32] : Fin 2 → IVec S_ 32) k (Shape.Idx.first h_S_)).toInt)) sliceFits_S5000x5000_S1x5000) shapeCasts_S1x5000_S5000

/-- The trip's own flag. -/
def flagOf : IVec S_ 1 :=
  shapeCast S_ (Host.dynamicSlice S1 keep (fun k => (((![trip i] : Fin 1 → IVec S_ 32) k (Shape.Idx.first h_S_)).toInt)) sliceFits_S5000_S1) shapeCasts_S1_S_

/-- The flags after the trip. -/
def struck : IVec S5000 1 :=
  andi keep (noti (andi (andi (cmpf .ogt (rowOf x i) (broadcastInDim S5000 ![] bcast_S_S5000 (constant S_ .f32 0x3F000000#32)))
    (broadcastInDim S5000 ![] bcast_S_S5000 (flagOf i keep))) (cmpi .sgt p (broadcastInDim S5000 ![] bcast_S_S5000 (id i)))))

theorem step_eq (V : Valuation τ sig (Elt Ideal)) :
    step_main_v58_4 V = struck (V main_v58_0) (V main_v58_1) (V main_v58_3) (V main_v58_4) := rfl

variable {i} {k : Fin 5000} (hi : ∀ j, i j = BitVec.ofNat 32 k.val)
include hi

theorem trip_toInt (j : S_.Idx) : (trip i j).toInt = k.val := by
  have e : (i j).toInt = k.val := by rw [hi, WordCmp.toInt_ofNat_of_lt (by have := k.isLt; omega)]
  rw [← e]
  exact congrArg BitVec.toInt (select_slt_zero_of_nonneg i _ i j (by rw [e]; exact Int.natCast_nonneg _))

theorem rowOf_apply (c : Fin 5000) : rowOf x i (ix1 c) = x (ix2 k c) := by
  have hoff : S5000x5000.Slices ![k.val, 0] S1x5000 :=
    ⟨rfl, fun a => match a with | ⟨0, _⟩ => k.isLt | ⟨1, _⟩ => (by decide : 0 + 5000 ≤ 5000)⟩
  unfold rowOf
  rw [Host.dynamicSlice_eq_extractStridedSlice S1x5000 x _ ![k.val, 0] sliceFits_S5000x5000_S1x5000 hoff
    (fun a => match a with | ⟨0, _⟩ => trip_toInt hi _ | ⟨1, _⟩ => rfl)]
  exact (shapeCast_1a_a_apply _ shapeCasts_S1x5000_S5000 c).trans
    (extractStridedSlice_apply (t := S1x5000) ![k.val, 0] x hoff (ix2 (0 : Fin 1) c) (ix2 k c)
      (fun a => match a with | ⟨0, _⟩ => rfl | ⟨1, _⟩ => (Nat.zero_add _).symm))

theorem flagOf_apply (j : S_.Idx) : flagOf i keep j = keep (ix1 k) := by
  have hoff : S5000.Slices ![k.val] S1 := ⟨rfl, fun a => match a with | ⟨0, _⟩ => k.isLt⟩
  unfold flagOf
  rw [Host.dynamicSlice_eq_extractStridedSlice S1 keep _ ![k.val] sliceFits_S5000_S1 hoff
    (fun a => match a with | ⟨0, _⟩ => trip_toInt hi _)]
  refine (shapeCast_apply _ shapeCasts_S1_S_ j (ix1 (0 : Fin 1)) ?_).trans
    (extractStridedSlice_apply (t := S1) ![k.val] keep hoff (ix1 (0 : Fin 1)) (ix1 k) (fun a => match a with | ⟨0, _⟩ => rfl))
  have a := (S1.rowMajor (ix1 (0 : Fin 1))).isLt
  have b := (S_.rowMajor j).isLt
  have a' : (S1.rowMajor (ix1 (0 : Fin 1))).val < 1 := a
  have b' : (S_.rowMajor j).val < 1 := b
  omega

omit hi in
theorem strike_iff (a b c d : BitVec 1) : IntOp.andi a (~~~(IntOp.andi (IntOp.andi b c) d)) = 1#1 ↔ a = 1#1 ∧ ¬(b = 1#1 ∧ c = 1#1 ∧ d = 1#1) := by
  revert a b c d; decide

omit hi in
theorem gt_word {x y : EReal} : Ideal.cmp .ogt x y = 1#1 ↔ y < x := by
  unfold Ideal.cmp; rw [WordCmp.ofBool_eq_one_iff]; exact decide_eq_true_iff

theorem struck_apply (hp : ∀ c : Fin 5000, p (ix1 c) = BitVec.ofNat 32 c.val) (c : Fin 5000) :
    struck x p i keep (ix1 c) = 1#1
      ↔ keep (ix1 c) = 1#1 ∧ ¬((((1 : ℝ) / 2 : ℝ) : EReal) < (x (ix2 k c) : EReal) ∧ keep (ix1 k) = 1#1 ∧ k.val < c.val) := by
  have hr : (rowOf x i (ix1 c) : EReal) = x (ix2 k c) := rowOf_apply x hi c
  have hk := k.isLt
  have hc := c.isLt
  refine (strike_iff (keep (ix1 c)) (Ideal.cmp .ogt (rowOf x i (ix1 c)) (Ideal.ofBits .f32 0x3F000000#32))
    (flagOf i keep _) (IntOp.cmpi .sgt (p (ix1 c)) (i _))).trans ?_
  rw [gt_word, hr, half_word, flagOf_apply keep hi, IntOp.cmpi_sgt, hp, hi, WordCmp.toInt_ofNat_of_lt (by omega), WordCmp.toInt_ofNat_of_lt (by omega), Int.ofNat_lt]

end Step

end Cert.ReferenceIdeal.Nms

end
-- ==== Proof.ReferenceIdeal.Result.lean ====
/- What the reference returns: the sorted rows, each times the flag of its survival. -/
module

public import proofs.«01_k».proof.Proof.ReferenceIdeal.Trip

@[expose] public section

set_option maxRecDepth 16384

noncomputable section

namespace Cert.ReferenceIdeal.Nms

open Cert.ReferenceIdeal Cert.ReferenceIdeal.Gen Cert.ReferenceIdeal.Value Cert.Greedy
open Idealize.ShloMosaic Idealize.ShloMosaic.TcCoe Idealize.ShloMosaic.StableHlo Idealize.ShloMosaic.ValueIdx
open Idealize.SL.Sem

variable (m : (ℓ : Loc nD τ sig) → Buf (Elt Ideal) ℓ) (dev : Dev nD)

/-- The boxes and the scores given. -/
abbrev boxes : Vec Ideal S5000x4 .f32 := m ((dev : Thread nD τ).loc main_arg0)
abbrev scores : Vec Ideal S5000 .f32 := m ((dev : Thread nD τ).loc main_arg1)

abbrev pos : Fin 5000 → Fin 5000 := order fun k => scores m dev (ix1 k)
/-- The sorted boxes and scores. -/
abbrev box (r : Fin 5000) (q : Fin 4) : EReal := boxes m dev (ix2 (pos m dev r) q)
abbrev score (r : Fin 5000) : EReal := scores m dev (ix1 (pos m dev r))

/-! ## The buffers the loop is entered with -/

/-- The buffers after the sort, the two takes, the boxes' arithmetic and the clip. -/
def A1 : Valuation τ sig (Elt Ideal) := after hostOps0_1 (after hostOps0 fun b => m (dev, b))
def A2 : Valuation τ sig (Elt Ideal) := after hostOps0_2 (A1 m dev)
def A3 : Valuation τ sig (Elt Ideal) := after hostOps0_3 (A2 m dev)
def A4 : Valuation τ sig (Elt Ideal) := after hostOps0_4 (A3 m dev)
def A5 : Valuation τ sig (Elt Ideal) := after hostOps0_5 (A4 m dev)

theorem entry_eq : entryContents preI m dev = after hostOps0_6 (A5 m dev) := rfl

theorem A1_keeps {r : Ref sig .tc} (h : r ∉ hostOps0_W) (h' : r ∉ hostOps0_1_W) : A1 m dev r = m ((dev : Thread nD τ).loc r) :=
  (after_of_writes_sub _ _ hostOps0_1_writes h').trans (after_of_writes_sub _ _ hostOps0_writes h)
theorem A2_keeps {r : Ref sig .tc} (h : r ∉ hostOps0_2_W) : A2 m dev r = A1 m dev r := after_of_writes_sub _ _ hostOps0_2_writes h
theorem A3_keeps {r : Ref sig .tc} (h : r ∉ hostOps0_3_W) : A3 m dev r = A2 m dev r := after_of_writes_sub _ _ hostOps0_3_writes h
theorem A4_keeps {r : Ref sig .tc} (h : r ∉ hostOps0_4_W) : A4 m dev r = A3 m dev r := after_of_writes_sub _ _ hostOps0_4_writes h
theorem A5_keeps {r : Ref sig .tc} (h : r ∉ hostOps0_5_W) : A5 m dev r = A4 m dev r := after_of_writes_sub _ _ hostOps0_5_writes h
theorem E_keeps {r : Ref sig .tc} (h : r ∉ hostOps0_6_W) : entryContents preI m dev r = A5 m dev r := after_of_writes_sub _ _ hostOps0_6_writes h

theorem A1_order (k : Fin 5000) : (A1 m dev main_v1 : Vec Ideal S5000 .i32) (ix1 k) = BitVec.ofNat 32 (pos m dev k).val :=
  argsort_at (fun b => m (dev, b)) (scores m dev) rfl k

theorem A2_rows (k : Fin 5000) (q : Fin 4) : (A2 m dev main_v2 : Vec Ideal S5000x4 .f32) (ix2 k q) = box m dev k q := by
  refine (rows_at (A1 m dev) (A1_order m dev) k q).trans ?_
  exact congrFun (A1_keeps m dev (r := main_arg0) (by decide +kernel) (by decide +kernel)) (ix2 (pos m dev k) q)

theorem A3_scores (k : Fin 5000) : (A3 m dev main_v3 : Vec Ideal S5000 .f32) (ix1 k) = score m dev k := by
  refine (entries_at (A2 m dev) (fun k => (congrFun (A2_keeps m dev (r := main_v1) (by decide +kernel)) (ix1 k)).trans (A1_order m dev k)) k).trans ?_
  exact congrFun ((A2_keeps m dev (r := main_arg1) (by decide +kernel)).trans (A1_keeps m dev (r := main_arg1) (by decide +kernel) (by decide +kernel))) (ix1 (pos m dev k))

theorem E_rows : entryContents preI m dev main_v2 = A2 m dev main_v2 :=
  (E_keeps m dev (by decide +kernel)).trans ((A5_keeps m dev (by decide +kernel)).trans ((A4_keeps m dev (by decide +kernel)).trans (A3_keeps m dev (by decide +kernel))))

theorem E_scores : entryContents preI m dev main_v3 = A3 m dev main_v3 :=
  (E_keeps m dev (by decide +kernel)).trans ((A5_keeps m dev (by decide +kernel)).trans (A4_keeps m dev (by decide +kernel)))

theorem E_quotients (r c : Fin 5000) :
    (entryContents preI m dev main_v58_0 : Vec Ideal S5000x5000 .f32) (ix2 r c) = iou (box m dev r) (box m dev c) := by
  have h2 : A3 m dev main_v2 = A2 m dev main_v2 := A3_keeps m dev (by decide +kernel)
  refine (quotient_at (A5 m dev) (A3 m dev main_v2) ((A5_keeps m dev (by decide +kernel)).trans (v14_eq (A3 m dev)))
    ((A5_keeps m dev (by decide +kernel)).trans (v25_eq (A3 m dev)))
    (fun j => v41_at (A4 m dev) (cst_eq (A3 m dev)) (A3 m dev main_v2) (v40_eq (A3 m dev)) j) r c).trans ?_
  rw [h2]
  exact congrArg₂ iou (funext fun q => A2_rows m dev r q) (funext fun q => A2_rows m dev c q)

theorem E_numbers : (entryContents preI m dev main_v58_1 : Vec Ideal S5000 .i32) = iotaInDim S5000 32 0 := by
  rw [entry_eq]; after_results; rfl

theorem E_trip : (entryContents preI m dev main_v58_3 : Vec Ideal S_ .i32) = constantI S_ 32 0#32 := by
  rw [entry_eq]; after_results; rfl

theorem E_flags : (entryContents preI m dev main_v58_4 : Vec Ideal S5000 .i1) = (fun _ => 1#1) := by
  rw [entry_eq]; after_results; rfl

/-! ## The loop -/

/-- Two positions whose boxes' quotient passes one half. -/
def Passes (r c : ℕ) : Prop :=
  ∃ (hr : r < 5000) (hc : c < 5000), (((1 : ℝ) / 2 : ℝ) : EReal) < iou (box m dev ⟨r, hr⟩) (box m dev ⟨c, hc⟩)

abbrev S (k : ℕ) : Valuation τ sig (Elt Ideal) := STEP^[k] (entryContents preI m dev)

theorem S_quotients (k : ℕ) : S m dev k main_v58_0 = entryContents preI m dev main_v58_0 := by
  induction k with
  | zero => rfl
  | succ k ih => rw [S, Function.iterate_succ_apply', STEP_main_v58_0]; exact ih

theorem S_numbers (k : ℕ) : S m dev k main_v58_1 = entryContents preI m dev main_v58_1 := by
  induction k with
  | zero => rfl
  | succ k ih => rw [S, Function.iterate_succ_apply', STEP_main_v58_1]; exact ih

theorem S_trip (k : ℕ) : (S m dev k main_v58_3 : Vec Ideal S_ .i32) = fun _ => BitVec.ofNat 32 k := by
  induction k with
  | zero => exact E_trip m dev
  | succ k ih =>
    rw [S, Function.iterate_succ_apply', STEP_main_v58_3]
    show addi (S m dev k main_v58_3 : Vec Ideal S_ .i32) (constantI S_ 32 1#32) = _
    rw [ih]
    funext j
    show BitVec.ofNat 32 k + BitVec.ofNat 32 1 = _
    rw [← BitVec.ofNat_add]

/-- Before trip `k` the flags that stand are the positions not struck out by the survivors before `k`. -/
theorem S_flags (k : ℕ) (hk : k ≤ 5000) (c : Fin 5000) :
    (S m dev k main_v58_4 : Vec Ideal S5000 .i1) (ix1 c) = 1#1 ↔ Free (Passes m dev) k c.val := by
  induction k generalizing c with
  | zero => exact iff_of_true (congrFun (E_flags m dev) (ix1 c)) (free_zero _ _)
  | succ k ih =>
    have hk' : k < 5000 := hk
    rw [S, Function.iterate_succ_apply', STEP_main_v58_4, step_eq]
    rw [struck_apply (i := S m dev k main_v58_3) (k := ⟨k, hk'⟩) _ _ _ (fun j => congrFun (S_trip m dev k) j)
      (fun c => congrFun ((S_numbers m dev k).trans (E_numbers m dev)) (ix1 c)) c]
    rw [free_succ]
    refine and_congr (ih hk'.le c) (not_congr (and_congr ?_ (and_congr (ih hk'.le ⟨k, hk'⟩) Iff.rfl)))
    refine (iff_of_eq (congrArg (fun x : EReal => (((1 : ℝ) / 2 : ℝ) : EReal) < x)
      ((congrFun (S_quotients m dev k) (ix2 ⟨k, hk'⟩ c)).trans (E_quotients m dev ⟨k, hk'⟩ c)))).trans ?_
    exact ⟨fun h => ⟨hk', c.isLt, h⟩, fun ⟨_, _, h⟩ => h⟩

/-! ## After the loop -/

/-- The buffers the lines after the loop find. -/
def X : Valuation τ sig (Elt Ideal) := after condOps (atK m 5000 dev)

theorem X_keeps {r : Ref sig .tc} (h : r ∉ tripW) : X m dev r = entryContents preI m dev r := by
  have hc : r ∉ condOps_W := by
    simp only [tripW, List.mem_append, not_or] at h
    exact h.1.1.1.1
  exact (after_of_writes_sub _ _ condOps_writes hc).trans (atK_keeps m h dev 5000)

theorem X_flags (c : Fin 5000) : (X m dev main_v58_4 : Vec Ideal S5000 .i1) (ix1 c) = 1#1 ↔ Kept (Passes m dev) c.val := by
  have e : X m dev main_v58_4 = S m dev 5000 main_v58_4 :=
    (cond_keeps (atK m 5000 dev) main_v58_4 (by decide)).trans (atK_agree m dev 5000 main_v58_4 (by decide))
  rw [e, S_flags m dev 5000 le_rfl c]
  exact free_iff_kept _ c.isLt.le

theorem uitofp_flag (b : BitVec 1) : (((b.toNat : ℝ)) : EReal) = flag (b = 1#1) := by
  rcases BitVec.eq_zero_or_eq_one b with h | h
  · rw [h, flag_false (by decide)]; simp
  · rw [h, flag_true rfl]; simp

theorem final_eq : finalContents condOps preI bodyI postI 5000 m dev = after hostOps0_7 (X m dev) := rfl

/-- The flags as numbers. -/
def numbers : FVec Ideal S5000 .f32 := uitofp .f32 (X m dev main_v58_4 : IVec S5000 1)

theorem numbers_apply (c : Fin 5000) : numbers m dev (ix1 c) = flag (Kept (Passes m dev) c.val) :=
  (uitofp_flag _).trans (flag_congr (X_flags m dev c))

theorem final_read : (after hostOps0_7 (X m dev) main_v65 : Vec Ideal S5000x5 .f32)
    = concatenate S5000x5 1 [⟨S5000x4, mulf (X m dev main_v2 : FVec Ideal S5000x4 .f32) (broadcastInDim S5000x4 ![0, 1] bcast_S5000x1_S5000x4_0_1 (broadcastInDim S5000x1 ![0] bcast_S5000_S5000x1_0 (numbers m dev)))⟩,
        ⟨S5000x1, broadcastInDim S5000x1 ![0] bcast_S5000_S5000x1_0 (mulf (X m dev main_v3 : FVec Ideal S5000 .f32) (numbers m dev))⟩] concatenates_S5000x4_S5000x1_S5000x5_d1 := by
  after_results
  rfl

/-- The rows returned. -/
theorem returned : finalContents condOps preI bodyI postI 5000 m dev main_v65
    = (fun j : S5000x5.Idx => table (box m dev) (score m dev) (j 0).val (j 1) * flag (Kept (Passes m dev) (j 0).val) : Vec Ideal S5000x5 .f32) := by
  rw [final_eq]
  refine (final_read m dev).trans (funext fun j => ?_)
  have hj : j = ix2 (j 0) (j 1) := eq_ix2 j
  have hr : (j 0).val < 5000 := (j 0).isLt
  have hq : (j 1).val < 5 := (j 1).isLt
  unfold table
  rw [dif_pos hr]
  by_cases h4 : (j 1).val < 4
  · rw [dif_pos h4]
    refine (concatenate_pair_apply_left (t := S5000x5) 1 _ _ concatenates_S5000x4_S5000x1_S5000x5_d1 j rfl (ix2 (⟨(j 0).val, hr⟩ : Fin 5000) (⟨(j 1).val, h4⟩ : Fin 4))
      (fun b => match b with | ⟨0, _⟩ => rfl | ⟨1, _⟩ => rfl)).trans ?_
    refine congrArg₂ (fun a b : EReal => a * b) ?_ ?_
    · exact (congrFun ((X_keeps m dev (r := main_v2) (by decide +kernel)).trans (E_rows m dev)) _).trans (A2_rows m dev _ _)
    · exact (broadcastInDim_apply (s := S5000x1) ![0, 1] bcast_S5000x1_S5000x4_0_1 _ _ (ix2 (⟨(j 0).val, hr⟩ : Fin 5000) (0 : Fin 1)) (fun a => match a with | ⟨0, _⟩ => rfl | ⟨1, _⟩ => rfl)).trans
        ((broadcastInDim_apply (s := S5000) ![0] bcast_S5000_S5000x1_0 _ _ (ix1 (⟨(j 0).val, hr⟩ : Fin 5000)) (fun a => match a with | ⟨0, _⟩ => rfl)).trans (numbers_apply m dev _))
  · rw [dif_neg h4]
    refine (concatenate_pair_apply_right (t := S5000x5) 1 _ _ concatenates_S5000x4_S5000x1_S5000x5_d1 j rfl rfl (ix2 (⟨(j 0).val, hr⟩ : Fin 5000) (0 : Fin 1))
      (fun b hb => match b with | ⟨0, _⟩ => rfl | ⟨1, _⟩ => absurd rfl hb) (by show 0 + 4 = (j 1).val; omega)).trans ?_
    refine (broadcastInDim_apply (s := S5000) ![0] bcast_S5000_S5000x1_0 _ _ (ix1 (⟨(j 0).val, hr⟩ : Fin 5000)) (fun a => match a with | ⟨0, _⟩ => rfl)).trans ?_
    exact congrArg₂ (fun a b : EReal => a * b) ((congrFun ((X_keeps m dev (r := main_v3) (by decide +kernel)).trans (E_scores m dev)) _).trans (A3_scores m dev _)) (numbers_apply m dev _)

end Cert.ReferenceIdeal.Nms

end
-- ==== Proof.Value.lean ====
/- The two programs return the same rows on proper boxes. -/
module

public import proofs.«01_k».proof.Defs
public import proofs.«01_k».proof.Proof.KernelIdeal.Host
public import proofs.«01_k».proof.Proof.KernelIdeal.Traj
public import proofs.«01_k».proof.Proof.ReferenceIdeal.Frame
public import proofs.«01_k».proof.Proof.ReferenceIdeal.Result
public import proofs.«01_k».proof.Proof.Math.Overlap

@[expose] public section

set_option maxRecDepth 16384

noncomputable section

namespace Cert.Proof

open Cert.Greedy
open Idealize.ShloMosaic Idealize.ShloMosaic.TcCoe Idealize.ShloMosaic.ValueIdx
open Idealize.SL.Sem

instance pre_facts : Cert.Pre_proper_boxes.Facts where
  slices_S5000x4_S5000x1_0_0 := by decide
  shapeCasts_S5000x1_S5000 := by decide
  slices_S5000x4_S5000x1_0_1 := by decide
  slices_S5000x4_S5000x1_0_2 := by decide
  slices_S5000x4_S5000x1_0_3 := by decide
  bcast_S_S5000 := by decide

/-! ## The precondition, read -/

theorem far_word : Ideal.ofBits .f32 0x46EA6000#32 = ((30000 : ℝ) : EReal) := by
  simp [Ideal.ofBits, Ideal.ieee, -EReal.coe_mul]; norm_num

theorem inf_word : Ideal.ofBits .f32 0x7F800000#32 = ⊤ := by
  simp [Ideal.ofBits, Ideal.ieee]

theorem real_of_abs {x : EReal} (h : max x (-x) < ⊤) : ∃ r : ℝ, x = r := by
  refine ⟨x.toReal, (EReal.coe_toReal (ne_top_of_lt ((le_max_left _ _).trans_lt h)) fun hb => ?_).symm⟩
  rw [hb] at h
  exact absurd ((le_max_right _ _).trans_lt h) (by simp)

theorem and_one (a b : BitVec 1) : a &&& b = 1#1 ↔ a = 1#1 ∧ b = 1#1 := by
  rcases BitVec.eq_zero_or_eq_one a with h | h <;> rcases BitVec.eq_zero_or_eq_one b with h' | h' <;> subst h <;> subst h' <;> decide

theorem of_olt {x y : EReal} (h : Ideal.cmp .olt x y = 1#1) : x < y := by
  unfold Ideal.cmp at h; rw [WordCmp.ofBool_eq_one_iff] at h; exact of_decide_eq_true h
theorem of_ole {x y : EReal} (h : Ideal.cmp .ole x y = 1#1) : x ≤ y := by
  unfold Ideal.cmp at h; rw [WordCmp.ofBool_eq_one_iff] at h; exact of_decide_eq_true h
theorem of_oge {x y : EReal} (h : Ideal.cmp .oge x y = 1#1) : y ≤ x := by
  unfold Ideal.cmp at h; rw [WordCmp.ofBool_eq_one_iff] at h; exact of_decide_eq_true h

section Pre
open Cert.Pre_proper_boxes

variable (b : FVec Ideal S5000x4 .f32) (s : FVec Ideal S5000 .f32)

/-- The precondition at a box: its six tests there. -/
theorem pre_at (k : Fin 5000) : fn b s (ix1 k) =
    let c (q : ℕ) (h : S5000x4.Slices ![0, q] S5000x1) : EReal := shapeCast S5000 (extractStridedSlice S5000x1 ![0, q] b h) Facts.shapeCasts_S5000x1_S5000 (ix1 k)
    let x1 := c 0 Facts.slices_S5000x4_S5000x1_0_0
    let y1 := c 1 Facts.slices_S5000x4_S5000x1_0_1
    let x2 := c 2 Facts.slices_S5000x4_S5000x1_0_2
    let y2 := c 3 Facts.slices_S5000x4_S5000x1_0_3
    ((((Ideal.cmp .olt (max x1 (-x1)) (Ideal.ofBits .f32 0x7F800000#32) &&& Ideal.cmp .olt (max y1 (-y1)) (Ideal.ofBits .f32 0x7F800000#32))
      &&& Ideal.cmp .olt (max x2 (-x2)) (Ideal.ofBits .f32 0x7F800000#32)) &&& Ideal.cmp .olt (max y2 (-y2)) (Ideal.ofBits .f32 0x7F800000#32))
      &&& Ideal.cmp .ole x2 (Ideal.ofBits .f32 0x46EA6000#32)) &&& Ideal.cmp .oge ((x2 - x1) * (y2 - y1)) (Ideal.ofBits .f32 0x3089705F#32) := rfl

theorem proper_of_pre (h : fn b s = fun _ => 1#1) (k : Fin 5000) : Proper fun q => b (ix2 k q) := by
  have h := (pre_at b s k).symm.trans (congrFun h (ix1 k))
  have e (q : ℕ) (hq : S5000x4.Slices ![0, q] S5000x1) (hq4 : q < 4) :
      (shapeCast S5000 (extractStridedSlice S5000x1 ![0, q] b hq) Facts.shapeCasts_S5000x1_S5000 (ix1 k) : EReal) = b (ix2 k ⟨q, hq4⟩) :=
    coord_apply b q hq Facts.shapeCasts_S5000x1_S5000 k hq4
  simp only [e 0 _ (by decide), e 1 _ (by decide), e 2 _ (by decide), e 3 _ (by decide), and_one, inf_word, far_word] at h
  obtain ⟨⟨⟨⟨⟨h0, h1⟩, h2⟩, h3⟩, hn⟩, ha⟩ := h
  exact ⟨fun q => match q with
    | 0 => real_of_abs (of_olt h0)
    | 1 => real_of_abs (of_olt h1)
    | 2 => real_of_abs (of_olt h2)
    | 3 => real_of_abs (of_olt h3), of_ole hn, of_oge ha⟩

end Pre

/-! ## The two orders and the two tests -/

theorem order_eq (s : Fin 5000 → EReal) : Cert.ReferenceIdeal.Nms.order s = Cert.KernelIdeal.Nms.order s := rfl

section Rows

variable {B : Fin 5000 → Fin 4 → EReal} (hB : ∀ k, Proper (B k))
include hB

theorem survives_iff (c : ℕ) (hc : c < 5000) :
    Kept (fun r c => ∃ (hr : r < 5000) (hc : c < 5000), (((1 : ℝ) / 2 : ℝ) : EReal) < iou (B ⟨r, hr⟩) (B ⟨c, hc⟩)) c
      ↔ Kept (Cert.KernelIdeal.Nms.Ov (table B fun k => area (B k))) c := by
  refine kept_congr (n := 5000) (fun r c hrc hc => ?_) c hc
  have hr := hrc.trans hc
  refine (⟨fun ⟨_, _, h⟩ => h, fun h => ⟨hr, hc, h⟩⟩ : _ ↔ (((1 : ℝ) / 2 : ℝ) : EReal) < iou (B ⟨r, hr⟩) (B ⟨c, hc⟩)).trans ?_
  refine (half_lt_iou (hB _) (hB _)).trans (iff_of_eq ?_)
  have e (i : ℕ) (hi : i < 5000) (q : Fin 4) : table B (fun k => area (B k)) i ⟨q.val, by omega⟩ = B ⟨i, hi⟩ q :=
    (table_coord B _ i q).trans (dif_pos hi)
  have f (i : ℕ) (hi : i < 5000) : table B (fun k => area (B k)) i 4 = area (B ⟨i, hi⟩) :=
    (table_last B _ i).trans (dif_pos hi)
  unfold Cert.KernelIdeal.Nms.Ov
  rw [← e r hr 0, ← e r hr 1, ← e r hr 2, ← e r hr 3, ← f r hr, ← e c hc 0, ← e c hc 1, ← e c hc 2, ← e c hc 3, ← f c hc]
  rfl

end Rows

/-! ## The value claim -/

/-- The precondition makes every box given a proper one. -/
theorem proper_args {m : (ℓ : Loc Cert.KernelIdeal.nD Cert.KernelIdeal.τ Cert.KernelIdeal.sig) → Buf (Elt Ideal) ℓ}
    (h : Cert.Pre_KernelIdeal_proper_boxes m) (c : Dev Cert.KernelIdeal.nD) (k : Fin 5000) :
    Proper fun q => Cert.KernelIdeal.Nms.boxes m c (ix2 k q) := proper_of_pre _ _ (h c) k

theorem algebraic : Cert.algebraic_KernelIdeal_ReferenceIdeal_pre_proper_boxes
    (hKernelIdeal := Cert.KernelIdeal.Gen.facts) (hReferenceIdeal := Cert.ReferenceIdeal.Gen.facts) (hPre_proper_boxes := pre_facts) := by
  intro m g m' g' hpre hargs
  refine ⟨fun c => (fun j : Cert.KernelIdeal.S5000x5.Idx =>
      table (Cert.KernelIdeal.Nms.box m c) (Cert.KernelIdeal.Nms.score m c) (j 0).val (j 1)
        * flag (Kept (Cert.KernelIdeal.Nms.Ov (table (Cert.KernelIdeal.Nms.box m c) fun k => area (Cert.KernelIdeal.Nms.box m c k))) (j 0).val) :
      Vec Ideal Cert.KernelIdeal.S5000x5 .f32), ?_, ?_⟩
  · refine (θ_run Cert.KernelIdeal.defs _ _).mono (fun r h c => ?_) (Cert.KernelIdeal.Nms.run m g)
    have H := Cert.KernelIdeal.Nms.tables m c (fun k => (proper_args hpre c k).near) (fun k => (proper_args hpre c k).area_nonneg)
    exact ⟨((h.1 c).2 Cert.KernelIdeal.main_v35 (Pipeline.mem_restRefs_of Cert.KernelIdeal.main_v35 (by decide) (by decide))).trans H.returned,
      ((h.1 c).2 Cert.KernelIdeal.main_arg0 (Pipeline.mem_restRefs_of Cert.KernelIdeal.main_arg0 (by decide) (by decide))).trans (Cert.KernelIdeal.Gen.W_main_arg0 m (Cert.KernelIdeal.Nms.dats m) c),
      ((h.1 c).2 Cert.KernelIdeal.main_arg1 (Pipeline.mem_restRefs_of Cert.KernelIdeal.main_arg1 (by decide) (by decide))).trans (Cert.KernelIdeal.Gen.W_main_arg1 m (Cert.KernelIdeal.Nms.dats m) c)⟩
  · refine (Cert.ReferenceIdeal.Value.run_fold m' g').mono (fun r h c => ?_)
    refine ⟨((h c Cert.ReferenceIdeal.main_v65 (by decide)).trans (Cert.ReferenceIdeal.Nms.returned m' c)).trans ?_,
      (h c Cert.ReferenceIdeal.main_arg0 (by decide)).trans (Cert.ReferenceIdeal.Nms.final_keeps m' (by decide +kernel) (by decide +kernel) (by decide +kernel) c),
      (h c Cert.ReferenceIdeal.main_arg1 (by decide)).trans (Cert.ReferenceIdeal.Nms.final_keeps m' (by decide +kernel) (by decide +kernel) (by decide +kernel) c)⟩
    have e1 : Cert.ReferenceIdeal.Nms.scores m' c = Cert.KernelIdeal.Nms.scores m c := (hargs c).2
    have e0 : Cert.ReferenceIdeal.Nms.boxes m' c = Cert.KernelIdeal.Nms.boxes m c := (hargs c).1
    have ep : Cert.ReferenceIdeal.Nms.pos m' c = Cert.KernelIdeal.Nms.pos m c := by
      unfold Cert.ReferenceIdeal.Nms.pos Cert.KernelIdeal.Nms.pos
      rw [order_eq, e1]
    have eb : Cert.ReferenceIdeal.Nms.box m' c = Cert.KernelIdeal.Nms.box m c := by
      unfold Cert.ReferenceIdeal.Nms.box Cert.KernelIdeal.Nms.box
      rw [e0, ep]
    have es : Cert.ReferenceIdeal.Nms.score m' c = Cert.KernelIdeal.Nms.score m c := by
      unfold Cert.ReferenceIdeal.Nms.score Cert.KernelIdeal.Nms.score
      rw [e1, ep]
    funext j
    have key := survives_iff (B := Cert.KernelIdeal.Nms.box m c) (fun k => proper_args hpre c (Cert.KernelIdeal.Nms.pos m c k)) (j 0).val (j 0).isLt
    refine congrArg₂ (fun a b : EReal => a * b) (by rw [eb, es]) (flag_congr ?_)
    refine Iff.trans (iff_of_eq ?_) key
    unfold Cert.ReferenceIdeal.Nms.Passes
    rw [eb]

end Cert.Proof

end
-- ==== Proof.lean ====
module

public import proofs.«01_k».proof.Defs
public import proofs.«01_k».proof.Proof.Kernel.Traj
public import proofs.«01_k».proof.Proof.KernelIdeal.Traj
public import proofs.«01_k».proof.Proof.ReferenceIdeal.Frame
public import proofs.«01_k».proof.Proof.Value

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, pre_facts,
  fun m g _ => Cert.Kernel.Nms.frame_run m g,
  fun m g _ => Cert.KernelIdeal.Nms.frame_run m g,
  fun m g _ => Cert.KernelIdeal.Nms.frame_run m g,
  fun m g _ => Cert.ReferenceIdeal.Nms.frame_run m g,
  fun m g _ => Cert.ReferenceIdeal.Nms.frame_run m g,
  trivial,
  algebraic⟩

end Cert.Proof

end
